-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkc [hPre_finite_qkc : Cert.Pre_finite_qkc.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkc [hPre_finite_qkc : Cert.Pre_finite_qkc.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qkc [hKernelIdeal : Cert.KernelIdeal.Facts] [hPre_finite_qkc : Cert.Pre_finite_qkc.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkc m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qkc [hReferenceIdeal : Cert.ReferenceIdeal.Facts] [hPre_finite_qkc : Cert.Pre_finite_qkc.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkc m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_qkc [hKernelIdeal : Cert.KernelIdeal.Facts] [hReferenceIdeal : Cert.ReferenceIdeal.Facts] [hPre_finite_qkc : Cert.Pre_finite_qkc.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkc m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)) (v6 : (c : Dev Cert.Kernel3Ideal.nD) → Buf (Elt Ideal) ((c.tc : Thread Cert.Kernel3Ideal.nD Cert.Kernel3Ideal.τ).loc Cert.Kernel3Ideal.main_v17_6)) (v7 : (c : Dev Cert.Kernel3Ideal.nD) → Buf (Elt Ideal) ((c.tc : Thread Cert.Kernel3Ideal.nD Cert.Kernel3Ideal.τ).loc Cert.Kernel3Ideal.main_v17_7)) (v8 : (c : Dev Cert.Kernel3Ideal.nD) → Buf (Elt Ideal) ((c.tc : Thread Cert.Kernel3Ideal.nD Cert.Kernel3Ideal.τ).loc Cert.Kernel3Ideal.main_v17_8)) (v9 : (c : Dev Cert.Kernel3Ideal.nD) → Buf (Elt Ideal) ((c.tc : Thread Cert.Kernel3Ideal.nD Cert.Kernel3Ideal.τ).loc Cert.Kernel3Ideal.main_v17_9)) (v10 : (c : Dev Cert.Kernel3Ideal.nD) → Buf (Elt Ideal) ((c.tc : Thread Cert.Kernel3Ideal.nD Cert.Kernel3Ideal.τ).loc Cert.Kernel3Ideal.main_v17_10)) (v11 : (c : Dev Cert.Kernel3Ideal.nD) → Buf (Elt Ideal) ((c.tc : Thread Cert.Kernel3Ideal.nD Cert.Kernel3Ideal.τ).loc Cert.Kernel3Ideal.main_v17_11)) (v12 : (c : Dev Cert.Kernel3Ideal.nD) → Buf (Elt Ideal) ((c.tc : Thread Cert.Kernel3Ideal.nD Cert.Kernel3Ideal.τ).loc Cert.Kernel3Ideal.main_v17_12)) (v13 : (c : Dev Cert.Kernel3Ideal.nD) → Buf (Elt Ideal) ((c.tc : Thread Cert.Kernel3Ideal.nD Cert.Kernel3Ideal.τ).loc Cert.Kernel3Ideal.main_v17_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_v17_6) = v6 c
          ∧ r.2.mem ((c.tc : Thread Cert.Kernel3Ideal.nD Cert.Kernel3Ideal.τ).loc Cert.Kernel3Ideal.main_v17_7) = v7 c
          ∧ r.2.mem ((c.tc : Thread Cert.Kernel3Ideal.nD Cert.Kernel3Ideal.τ).loc Cert.Kernel3Ideal.main_v17_8) = v8 c
          ∧ r.2.mem ((c.tc : Thread Cert.Kernel3Ideal.nD Cert.Kernel3Ideal.τ).loc Cert.Kernel3Ideal.main_v17_9) = v9 c
          ∧ r.2.mem ((c.tc : Thread Cert.Kernel3Ideal.nD Cert.Kernel3Ideal.τ).loc Cert.Kernel3Ideal.main_v17_10) = v10 c
          ∧ r.2.mem ((c.tc : Thread Cert.Kernel3Ideal.nD Cert.Kernel3Ideal.τ).loc Cert.Kernel3Ideal.main_v17_11) = v11 c
          ∧ r.2.mem ((c.tc : Thread Cert.Kernel3Ideal.nD Cert.Kernel3Ideal.τ).loc Cert.Kernel3Ideal.main_v17_12) = v12 c
          ∧ r.2.mem ((c.tc : Thread Cert.Kernel3Ideal.nD Cert.Kernel3Ideal.τ).loc Cert.Kernel3Ideal.main_v17_13) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v17) = v4 c
          ∧ r.2.mem ((c.tc : Thread Cert.Reference3Ideal.nD Cert.Reference3Ideal.τ).loc Cert.Reference3Ideal.main_v41) = v5 c
          ∧ r.2.mem ((c.tc : Thread Cert.Reference3Ideal.nD Cert.Reference3Ideal.τ).loc Cert.Reference3Ideal.main_v42) = v6 c
          ∧ r.2.mem ((c.tc : Thread Cert.Reference3Ideal.nD Cert.Reference3Ideal.τ).loc Cert.Reference3Ideal.main_v27) = v7 c
          ∧ r.2.mem ((c.tc : Thread Cert.Reference3Ideal.nD Cert.Reference3Ideal.τ).loc Cert.Reference3Ideal.main_v19) = v8 c
          ∧ r.2.mem ((c.tc : Thread Cert.Reference3Ideal.nD Cert.Reference3Ideal.τ).loc Cert.Reference3Ideal.main_v20) = v9 c
          ∧ r.2.mem ((c.tc : Thread Cert.Reference3Ideal.nD Cert.Reference3Ideal.τ).loc Cert.Reference3Ideal.main_v21) = v10 c
          ∧ r.2.mem ((c.tc : Thread Cert.Reference3Ideal.nD Cert.Reference3Ideal.τ).loc Cert.Reference3Ideal.main_v43) = v11 c
          ∧ r.2.mem ((c.tc : Thread Cert.Reference3Ideal.nD Cert.Reference3Ideal.τ).loc Cert.Reference3Ideal.main_v44) = v12 c
          ∧ r.2.mem ((c.tc : Thread Cert.Reference3Ideal.nD Cert.Reference3Ideal.τ).loc Cert.Reference3Ideal.main_v33) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qkc : Cert.Pre_finite_qkc.Facts),
    quiescent_Kernel (hKernel := hKernel)
    ∧ quiescent_KernelIdeal (hKernelIdeal := hKernelIdeal)
    ∧ quiescent_KernelIdeal_pre_finite_qkc (hKernelIdeal := hKernelIdeal) (hPre_finite_qkc := hPre_finite_qkc)
    ∧ quiescent_ReferenceIdeal (hReferenceIdeal := hReferenceIdeal)
    ∧ quiescent_ReferenceIdeal_pre_finite_qkc (hReferenceIdeal := hReferenceIdeal) (hPre_finite_qkc := hPre_finite_qkc)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qkc (hKernelIdeal := hKernelIdeal) (hReferenceIdeal := hReferenceIdeal) (hPre_finite_qkc := hPre_finite_qkc)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qkc.lean ====
abbrev S16640x512 : Shape := ⟨2, ![16640, 512]⟩
abbrev S16384x8 : Shape := ⟨2, ![16384, 8]⟩
abbrev S8 : Shape := ⟨1, ![8]⟩
abbrev S64x512 : Shape := ⟨2, ![64, 512]⟩
abbrev S16384x512 : Shape := ⟨2, ![16384, 512]⟩
abbrev S_ : Shape := ⟨0, ![]⟩

class Facts : Prop where
  slices_S16640x512_S16384x512_0_0 : S16640x512.Slices ![0, 0] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16640x512 .f32) (main_arg1 : FVec F S16640x512 .f32) (main_arg2 : FVec F S16640x512 .f32) (main_arg3 : FVec F S16384x8 .f32) (main_arg4 : FVec F S16640x512 .f32) (main_arg5 : FVec F S16640x512 .f32) (main_arg6 : FVec F S16640x512 .f32) (main_arg7 : FVec F S8 .f32) (main_arg8 : FVec F S64x512 .f32) : IVec S_ 1 :=
  let main_v0 : FVec F S16384x512 .f32 := (extractStridedSlice S16384x512 ![0, 0] · slices_S16640x512_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extractStridedSlice S16384x512 ![0, 0] · slices_S16640x512_S16384x512_0_0) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x8 .f32 := Host.absf main_arg3
  let main_cst_2 : FVec F S_ .f32 := constant S_ .f32 0x7F800000#32
  let main_v12 : FVec F S16384x8 .f32 := broadcastInDim S16384x8 ![] bcast_S_S16384x8 main_cst_2
  let main_v13 : IVec S16384x8 1 := cmpf .olt main_v11 main_v12
  let main_c_3 : IVec S_ 1 := constantI S_ 1 1#1
  let main_v14 : IVec S_ 1 := (fun x v => Host.reduce IntOp.andi x v reducesTo_S16384x8_S_d0_1 h_S_) main_v13 main_c_3
  let main_v15 : IVec S_ 1 := andi main_v10 main_v14
  main_v15
-- ==== Kernel.lean ====
abbrev S16640x512 : Shape := ⟨2, ![16640, 512]⟩
abbrev S16384x8 : Shape := ⟨2, ![16384, 8]⟩
abbrev S8 : Shape := ⟨1, ![8]⟩
abbrev S64x512 : Shape := ⟨2, ![64, 512]⟩
abbrev S8x16384 : Shape := ⟨2, ![8, 16384]⟩
abbrev S16384x512 : Shape := ⟨2, ![16384, 512]⟩
abbrev S256x128 : Shape := ⟨2, ![256, 128]⟩
abbrev S16384x128 : Shape := ⟨2, ![16384, 128]⟩
abbrev S256x8 : Shape := ⟨2, ![256, 8]⟩
abbrev S64x128 : Shape := ⟨2, ![64, 128]⟩
abbrev S1x128 : Shape := ⟨2, ![1, 128]⟩
abbrev S256x256 : Shape := ⟨2, ![256, 256]⟩
abbrev S1x8 : Shape := ⟨2, ![1, 8]⟩
abbrev S256 : Shape := ⟨1, ![256]⟩
abbrev S256x1 : Shape := ⟨2, ![256, 1]⟩
abbrev S1 : Shape := ⟨1, ![1]⟩
abbrev S1x64 : Shape := ⟨2, ![1, 64]⟩
abbrev S256x64 : Shape := ⟨2, ![256, 64]⟩
abbrev S1x256 : Shape := ⟨2, ![1, 256]⟩
abbrev S2048x128 : Shape := ⟨2, ![2048, 128]⟩
abbrev S256x2048 : Shape := ⟨2, ![256, 2048]⟩
abbrev S1x2048 : Shape := ⟨2, ![1, 2048]⟩
abbrev S1024x128 : Shape := ⟨2, ![1024, 128]⟩
abbrev S256x1024 : Shape := ⟨2, ![256, 1024]⟩
abbrev S1x1024 : Shape := ⟨2, ![1, 1024]⟩

abbrev nBuf : Space → Nat
  | .hbm => 17
  | .vmem => 21
  | .smem => 1
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x512, .f32⟩
  | .hbm, ⟨3, _⟩ => ⟨S16384x8, .f32⟩
  | .hbm, ⟨4, _⟩ => ⟨S16640x512, .f32⟩
  | .hbm, ⟨5, _⟩ => ⟨S16640x512, .f32⟩
  | .hbm, ⟨6, _⟩ => ⟨S16640x512, .f32⟩
  | .hbm, ⟨7, _⟩ => ⟨S8, .f32⟩
  | .hbm, ⟨8, _⟩ => ⟨S64x512, .f32⟩
  | .hbm, ⟨9, _⟩ => ⟨S8x16384, .f32⟩
  | .hbm, ⟨10, _⟩ => ⟨S16640x512, .bf16⟩
  | .hbm, ⟨11, _⟩ => ⟨S16640x512, .bf16⟩
  | .hbm, ⟨12, _⟩ => ⟨S16384x8, .f32⟩
  | .hbm, ⟨13, _⟩ => ⟨S16640x512, .bf16⟩
  | .hbm, ⟨14, _⟩ => ⟨S16640x512, .bf16⟩
  | .hbm, ⟨15, _⟩ => ⟨S16384x512, .f32⟩
  | .hbm, ⟨16, _⟩ => ⟨S16384x512, .f32⟩
  | .local _ .vmem, ⟨0, _⟩ => ⟨S256x128, .f32⟩
  | .local _ .vmem, ⟨1, _⟩ => ⟨S256x128, .f32⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x8, .f32⟩
  | .local _ .vmem, ⟨7, _⟩ => ⟨S256x8, .f32⟩
  | .local _ .vmem, ⟨8, _⟩ => ⟨S8x16384, .f32⟩
  | .local _ .vmem, ⟨9, _⟩ => ⟨S256x128, .f32⟩
  | .local _ .vmem, ⟨10, _⟩ => ⟨S256x128, .f32⟩
  | .local _ .vmem, ⟨11, _⟩ => ⟨S16384x128, .bf16⟩
  | .local _ .vmem, ⟨12, _⟩ => ⟨S16384x128, .bf16⟩
  | .local _ .vmem, ⟨13, _⟩ => ⟨S16384x128, .bf16⟩
  | .local _ .vmem, ⟨14, _⟩ => ⟨S16384x128, .bf16⟩
  | .local _ .vmem, ⟨15, _⟩ => ⟨S64x128, .f32⟩
  | .local _ .vmem, ⟨16, _⟩ => ⟨S64x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .smem, ⟨0, _⟩ => ⟨S8, .f32⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 64], ![false, false]⟩

def k0_off1 (i : grid0.Coords) (c0_i32_24 : BitVec 32) : Fin 1 → Nat :=
  let c2_i32_23 : BitVec 32 := 2#32
  let arg0 : BitVec 32 := BitVec.ofNat 32 (i 0).val
  let v71 : BitVec 32 := Scalar.muli c2_i32_23 arg0
  let v72 : BitVec 32 := Scalar.addi v71 c0_i32_24
  let v73 : Index := Scalar.indexCast v72
  ![v73.toNat]
def k0_mult1 (i : grid0.Coords) : BitVec 32 :=
  let arg1 : BitVec 32 := BitVec.ofNat 32 (i 1).val
  let c256_i32 : BitVec 32 := 256#32
  let v255 : BitVec 32 := Scalar.muli arg1 c256_i32
  v255
def k0_off2 (i : grid0.Coords) : Fin 2 → Nat :=
  let arg1 : BitVec 32 := BitVec.ofNat 32 (i 1).val
  let c256_i32 : BitVec 32 := 256#32
  let v255 : BitVec 32 := Scalar.muli arg1 c256_i32
  let v256 : BitVec 32 := v255
  let v257 : Index := Scalar.indexCast v256
  let c0_89 : Index := 0#32
  ![v257.toNat, 0]
def k0_mult2 (i : grid0.Coords) : BitVec 32 :=
  let arg1 : BitVec 32 := BitVec.ofNat 32 (i 1).val
  let c256_i32_93 : BitVec 32 := 256#32
  let v265 : BitVec 32 := Scalar.muli arg1 c256_i32_93
  v265
def k0_off3 (i : grid0.Coords) (c0_i32_99 : BitVec 32) : Fin 2 → Nat :=
  let c2_i32_98 : BitVec 32 := 2#32
  let arg0 : BitVec 32 := BitVec.ofNat 32 (i 0).val
  let v275 : BitVec 32 := Scalar.muli c2_i32_98 arg0
  let v276 : BitVec 32 := Scalar.addi v275 c0_i32_99
  let v277 : Index := Scalar.indexCast v276
  let arg1 : BitVec 32 := BitVec.ofNat 32 (i 1).val
  let c256_i32 : BitVec 32 := 256#32
  let v255 : BitVec 32 := Scalar.muli arg1 c256_i32
  let v256 : BitVec 32 := v255
  let v278 : Index := Scalar.indexCast v256
  ![v277.toNat, v278.toNat]
@[reducible] def k0_t1_loop (i : grid0.Coords) : Scf.Loop 32 :=
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let c1_i32_133 : BitVec 32 := 1#32
  ⟨c0_i32_131, v417, c1_i32_133⟩
def k0_mult3 (i : grid0.Coords) (k0_t1 : Fin (k0_t1_loop i).trips) : BitVec 32 :=
  let c0_i32_156 : BitVec 32 := 0#32
  let c0_i32_131 : BitVec 32 := 0#32
  let c1_i32_133 : BitVec 32 := 1#32
  let arg14 : BitVec 32 := Scf.iv c0_i32_131 c1_i32_133 k0_t1
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  v474
def k0_off4 (i : grid0.Coords) (k0_t1 : Fin (k0_t1_loop i).trips) : Fin 2 → Nat :=
  let c0_i32_156 : BitVec 32 := 0#32
  let c0_i32_131 : BitVec 32 := 0#32
  let c1_i32_133 : BitVec 32 := 1#32
  let arg14 : BitVec 32 := Scf.iv c0_i32_131 c1_i32_133 k0_t1
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  let v475 : BitVec 32 := v474
  let v476 : Index := Scalar.indexCast v475
  let c0_158 : Index := 0#32
  ![v476.toNat, 0]
def k0_mult4 (i : grid0.Coords) (k0_t1 : Fin (k0_t1_loop i).trips) : BitVec 32 :=
  let c0_i32_156 : BitVec 32 := 0#32
  let c0_i32_131 : BitVec 32 := 0#32
  let c1_i32_133 : BitVec 32 := 1#32
  let arg14 : BitVec 32 := Scf.iv c0_i32_131 c1_i32_133 k0_t1
  let c8_i32_155 : BitVec 32 := 8#32
  let v472 : BitVec 32 := Scalar.muli arg14 c8_i32_155
  let v473 : BitVec 32 := Scalar.addi c0_i32_156 v472
  let c256_i32_162 : BitVec 32 := 256#32
  let v484 : BitVec 32 := Scalar.muli v473 c256_i32_162
  v484
def k0_off5 (i : grid0.Coords) (k0_t1 : Fin (k0_t1_loop i).trips) (c0_i32_168 : BitVec 32) : Fin 2 → Nat :=
  let c2_i32_167 : BitVec 32 := 2#32
  let arg0 : BitVec 32 := BitVec.ofNat 32 (i 0).val
  let v494 : BitVec 32 := Scalar.muli c2_i32_167 arg0
  let v495 : BitVec 32 := Scalar.addi v494 c0_i32_168
  let v496 : Index := Scalar.indexCast v495
  let c0_i32_156 : BitVec 32 := 0#32
  let c0_i32_131 : BitVec 32 := 0#32
  let c1_i32_133 : BitVec 32 := 1#32
  let arg14 : BitVec 32 := Scf.iv c0_i32_131 c1_i32_133 k0_t1
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  let v475 : BitVec 32 := v474
  let v497 : Index := Scalar.indexCast v475
  ![v496.toNat, v497.toNat]
@[reducible] def k0_t2_loop (i : grid0.Coords) : Scf.Loop 32 :=
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let v414 : BitVec 32 := Scalar.addi c0_i32_131 v413
  let c1_i32_134 : BitVec 32 := 1#32
  ⟨v417, v414, c1_i32_134⟩
def k0_mult5 (i : grid0.Coords) (k0_t2 : Fin (k0_t2_loop i).trips) : BitVec 32 :=
  let c0_i32_156 : BitVec 32 := 0#32
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let c1_i32_134 : BitVec 32 := 1#32
  let arg14 : BitVec 32 := Scf.iv v417 c1_i32_134 k0_t2
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  v474
def k0_off6 (i : grid0.Coords) (k0_t2 : Fin (k0_t2_loop i).trips) : Fin 2 → Nat :=
  let c0_i32_156 : BitVec 32 := 0#32
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let c1_i32_134 : BitVec 32 := 1#32
  let arg14 : BitVec 32 := Scf.iv v417 c1_i32_134 k0_t2
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  let v475 : BitVec 32 := v474
  let v476 : Index := Scalar.indexCast v475
  let c0_158 : Index := 0#32
  ![v476.toNat, 0]
def k0_mult6 (i : grid0.Coords) (k0_t2 : Fin (k0_t2_loop i).trips) : BitVec 32 :=
  let c0_i32_156 : BitVec 32 := 0#32
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let c1_i32_134 : BitVec 32 := 1#32
  let arg14 : BitVec 32 := Scf.iv v417 c1_i32_134 k0_t2
  let c8_i32_155 : BitVec 32 := 8#32
  let v472 : BitVec 32 := Scalar.muli arg14 c8_i32_155
  let v473 : BitVec 32 := Scalar.addi c0_i32_156 v472
  let c256_i32_162 : BitVec 32 := 256#32
  let v484 : BitVec 32 := Scalar.muli v473 c256_i32_162
  v484
def k0_off7 (i : grid0.Coords) (k0_t2 : Fin (k0_t2_loop i).trips) (c0_i32_168 : BitVec 32) : Fin 2 → Nat :=
  let c2_i32_167 : BitVec 32 := 2#32
  let arg0 : BitVec 32 := BitVec.ofNat 32 (i 0).val
  let v494 : BitVec 32 := Scalar.muli c2_i32_167 arg0
  let v495 : BitVec 32 := Scalar.addi v494 c0_i32_168
  let v496 : Index := Scalar.indexCast v495
  let c0_i32_156 : BitVec 32 := 0#32
  let c0_i32_131 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let v413 : BitVec 32 := Scalar.subi v412 c0_i32_131
  let c1_i32_132 : BitVec 32 := 1#32
  let v415 : BitVec 32 := Scalar.divsi v413 c1_i32_132
  let v416 : BitVec 32 := Scalar.muli v415 c1_i32_132
  let v417 : BitVec 32 := Scalar.addi c0_i32_131 v416
  let c1_i32_134 : BitVec 32 := 1#32
  let arg14 : BitVec 32 := Scf.iv v417 c1_i32_134 k0_t2
  let c8_i32_155 : BitVec 32 := 8#32
  let v472 : BitVec 32 := Scalar.muli arg14 c8_i32_155
  let v473 : BitVec 32 := Scalar.addi c0_i32_156 v472
  let c256_i32_157 : BitVec 32 := 256#32
  let v474 : BitVec 32 := Scalar.muli v473 c256_i32_157
  let v475 : BitVec 32 := v474
  let v497 : Index := Scalar.indexCast v475
  ![v496.toNat, v497.toNat]
@[reducible] def k0_t3_loop (i : grid0.Coords) : Scf.Loop 32 :=
  let c0_i32_143 : BitVec 32 := 0#32
  let arg1 : BitVec 32 := BitVec.ofNat 32 (i 1).val
  let c0_i32_136 : BitVec 32 := 0#32
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let c1_i32_145 : BitVec 32 := 1#32
  ⟨c0_i32_143, v444, c1_i32_145⟩
def k0_mult7 (i : grid0.Coords) (k0_t3 : Fin (k0_t3_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let c1_i32_145 : BitVec 32 := 1#32
  let arg14 : BitVec 32 := Scf.iv c0_i32_143 c1_i32_145 k0_t3
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  v474
def k0_off8 (i : grid0.Coords) (k0_t3 : Fin (k0_t3_loop i).trips) : Fin 2 → Nat :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let c1_i32_145 : BitVec 32 := 1#32
  let arg14 : BitVec 32 := Scf.iv c0_i32_143 c1_i32_145 k0_t3
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  let v475 : BitVec 32 := v474
  let v476 : Index := Scalar.indexCast v475
  let c0_157 : Index := 0#32
  ![v476.toNat, 0]
def k0_mult8 (i : grid0.Coords) (k0_t3 : Fin (k0_t3_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let c1_i32_145 : BitVec 32 := 1#32
  let arg14 : BitVec 32 := Scf.iv c0_i32_143 c1_i32_145 k0_t3
  let c4_i32_155 : BitVec 32 := 4#32
  let v472 : BitVec 32 := Scalar.muli arg14 c4_i32_155
  let v473 : BitVec 32 := Scalar.addi v421 v472
  let c256_i32_161 : BitVec 32 := 256#32
  let v484 : BitVec 32 := Scalar.muli v473 c256_i32_161
  v484
def k0_off9 (i : grid0.Coords) (k0_t3 : Fin (k0_t3_loop i).trips) (c0_i32_167 : BitVec 32) : Fin 2 → Nat :=
  let c2_i32_166 : BitVec 32 := 2#32
  let arg0 : BitVec 32 := BitVec.ofNat 32 (i 0).val
  let v494 : BitVec 32 := Scalar.muli c2_i32_166 arg0
  let v495 : BitVec 32 := Scalar.addi v494 c0_i32_167
  let v496 : Index := Scalar.indexCast v495
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let c1_i32_145 : BitVec 32 := 1#32
  let arg14 : BitVec 32 := Scf.iv c0_i32_143 c1_i32_145 k0_t3
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  let v475 : BitVec 32 := v474
  let v497 : Index := Scalar.indexCast v475
  ![v496.toNat, v497.toNat]
@[reducible] def k0_t4_loop (i : grid0.Coords) : Scf.Loop 32 :=
  let c0_i32_143 : BitVec 32 := 0#32
  let arg1 : BitVec 32 := BitVec.ofNat 32 (i 1).val
  let c0_i32_136 : BitVec 32 := 0#32
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let v441 : BitVec 32 := Scalar.addi c0_i32_143 v440
  let c1_i32_146 : BitVec 32 := 1#32
  ⟨v444, v441, c1_i32_146⟩
def k0_mult9 (i : grid0.Coords) (k0_t4 : Fin (k0_t4_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let c1_i32_146 : BitVec 32 := 1#32
  let arg14 : BitVec 32 := Scf.iv v444 c1_i32_146 k0_t4
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  v474
def k0_off10 (i : grid0.Coords) (k0_t4 : Fin (k0_t4_loop i).trips) : Fin 2 → Nat :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let c1_i32_146 : BitVec 32 := 1#32
  let arg14 : BitVec 32 := Scf.iv v444 c1_i32_146 k0_t4
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  let v475 : BitVec 32 := v474
  let v476 : Index := Scalar.indexCast v475
  let c0_157 : Index := 0#32
  ![v476.toNat, 0]
def k0_mult10 (i : grid0.Coords) (k0_t4 : Fin (k0_t4_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let c1_i32_146 : BitVec 32 := 1#32
  let arg14 : BitVec 32 := Scf.iv v444 c1_i32_146 k0_t4
  let c4_i32_155 : BitVec 32 := 4#32
  let v472 : BitVec 32 := Scalar.muli arg14 c4_i32_155
  let v473 : BitVec 32 := Scalar.addi v421 v472
  let c256_i32_161 : BitVec 32 := 256#32
  let v484 : BitVec 32 := Scalar.muli v473 c256_i32_161
  v484
def k0_off11 (i : grid0.Coords) (k0_t4 : Fin (k0_t4_loop i).trips) (c0_i32_167 : BitVec 32) : Fin 2 → Nat :=
  let c2_i32_166 : BitVec 32 := 2#32
  let arg0 : BitVec 32 := BitVec.ofNat 32 (i 0).val
  let v494 : BitVec 32 := Scalar.muli c2_i32_166 arg0
  let v495 : BitVec 32 := Scalar.addi v494 c0_i32_167
  let v496 : Index := Scalar.indexCast v495
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let c0_i32_143 : BitVec 32 := 0#32
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let v440 : BitVec 32 := Scalar.subi v439 c0_i32_143
  let c1_i32_144 : BitVec 32 := 1#32
  let v442 : BitVec 32 := Scalar.divsi v440 c1_i32_144
  let v443 : BitVec 32 := Scalar.muli v442 c1_i32_144
  let v444 : BitVec 32 := Scalar.addi c0_i32_143 v443
  let c1_i32_146 : BitVec 32 := 1#32
  let arg14 : BitVec 32 := Scf.iv v444 c1_i32_146 k0_t4
  let c4_i32_155 : BitVec 32 := 4#32
  let v472 : BitVec 32 := Scalar.muli arg14 c4_i32_155
  let v473 : BitVec 32 := Scalar.addi v421 v472
  let c256_i32_156 : BitVec 32 := 256#32
  let v474 : BitVec 32 := Scalar.muli v473 c256_i32_156
  let v475 : BitVec 32 := v474
  let v497 : Index := Scalar.indexCast v475
  ![v496.toNat, v497.toNat]
@[reducible] def k0_t5_loop (i : grid0.Coords) : Scf.Loop 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let c1_i32_149 : BitVec 32 := 1#32
  ⟨v448, v453, c1_i32_149⟩
def k0_mult11 (i : grid0.Coords) (k0_t5 : Fin (k0_t5_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let c1_i32_149 : BitVec 32 := 1#32
  let arg14 : BitVec 32 := Scf.iv v448 c1_i32_149 k0_t5
  let c256_i32_155 : BitVec 32 := 256#32
  let v472 : BitVec 32 := Scalar.muli arg14 c256_i32_155
  v472
def k0_off12 (i : grid0.Coords) (k0_t5 : Fin (k0_t5_loop i).trips) : Fin 2 → Nat :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let c1_i32_149 : BitVec 32 := 1#32
  let arg14 : BitVec 32 := Scf.iv v448 c1_i32_149 k0_t5
  let c256_i32_155 : BitVec 32 := 256#32
  let v472 : BitVec 32 := Scalar.muli arg14 c256_i32_155
  let v473 : BitVec 32 := v472
  let v474 : Index := Scalar.indexCast v473
  let c0_156 : Index := 0#32
  ![v474.toNat, 0]
def k0_mult12 (i : grid0.Coords) (k0_t5 : Fin (k0_t5_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let c1_i32_149 : BitVec 32 := 1#32
  let arg14 : BitVec 32 := Scf.iv v448 c1_i32_149 k0_t5
  let c256_i32_160 : BitVec 32 := 256#32
  let v482 : BitVec 32 := Scalar.muli arg14 c256_i32_160
  v482
def k0_off13 (i : grid0.Coords) (k0_t5 : Fin (k0_t5_loop i).trips) (c0_i32_166 : BitVec 32) : Fin 2 → Nat :=
  let c2_i32_165 : BitVec 32 := 2#32
  let arg0 : BitVec 32 := BitVec.ofNat 32 (i 0).val
  let v492 : BitVec 32 := Scalar.muli c2_i32_165 arg0
  let v493 : BitVec 32 := Scalar.addi v492 c0_i32_166
  let v494 : Index := Scalar.indexCast v493
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let c1_i32_149 : BitVec 32 := 1#32
  let arg14 : BitVec 32 := Scf.iv v448 c1_i32_149 k0_t5
  let c256_i32_155 : BitVec 32 := 256#32
  let v472 : BitVec 32 := Scalar.muli arg14 c256_i32_155
  let v473 : BitVec 32 := v472
  let v495 : Index := Scalar.indexCast v473
  ![v494.toNat, v495.toNat]
@[reducible] def k0_t6_loop (i : grid0.Coords) : Scf.Loop 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let v450 : BitVec 32 := Scalar.addi v448 v449
  let c1_i32_150 : BitVec 32 := 1#32
  ⟨v453, v450, c1_i32_150⟩
def k0_mult13 (i : grid0.Coords) (k0_t6 : Fin (k0_t6_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let c1_i32_150 : BitVec 32 := 1#32
  let arg14 : BitVec 32 := Scf.iv v453 c1_i32_150 k0_t6
  let c256_i32_155 : BitVec 32 := 256#32
  let v472 : BitVec 32 := Scalar.muli arg14 c256_i32_155
  v472
def k0_off14 (i : grid0.Coords) (k0_t6 : Fin (k0_t6_loop i).trips) : Fin 2 → Nat :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let c1_i32_150 : BitVec 32 := 1#32
  let arg14 : BitVec 32 := Scf.iv v453 c1_i32_150 k0_t6
  let c256_i32_155 : BitVec 32 := 256#32
  let v472 : BitVec 32 := Scalar.muli arg14 c256_i32_155
  let v473 : BitVec 32 := v472
  let v474 : Index := Scalar.indexCast v473
  let c0_156 : Index := 0#32
  ![v474.toNat, 0]
def k0_mult14 (i : grid0.Coords) (k0_t6 : Fin (k0_t6_loop i).trips) : BitVec 32 :=
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let c1_i32_150 : BitVec 32 := 1#32
  let arg14 : BitVec 32 := Scf.iv v453 c1_i32_150 k0_t6
  let c256_i32_160 : BitVec 32 := 256#32
  let v482 : BitVec 32 := Scalar.muli arg14 c256_i32_160
  v482
def k0_off15 (i : grid0.Coords) (k0_t6 : Fin (k0_t6_loop i).trips) (c0_i32_166 : BitVec 32) : Fin 2 → Nat :=
  let c2_i32_165 : BitVec 32 := 2#32
  let arg0 : BitVec 32 := BitVec.ofNat 32 (i 0).val
  let v492 : BitVec 32 := Scalar.muli c2_i32_165 arg0
  let v493 : BitVec 32 := Scalar.addi v492 c0_i32_166
  let v494 : Index := Scalar.indexCast v493
  let c0_i32_136 : BitVec 32 := 0#32
  let arg1 : BitVec 32 := BitVec.ofNat 32 (i 1).val
  let c0_i32_124 : BitVec 32 := 0#32
  let v395 : BitVec 32 := Scalar.subi arg1 c0_i32_124
  let c0_i32_125 : BitVec 32 := 0#32
  let v397 : BitVec 1 := Scalar.cmpi .sgt v395 c0_i32_125
  let v398 : BitVec 32 := Scalar.extui v397
  let c0_i32_126 : BitVec 32 := 0#32
  let v399 : BitVec 1 := Scalar.cmpi .slt v395 c0_i32_126
  let v400 : BitVec 32 := Scalar.extui v399
  let v401 : BitVec 32 := Scalar.subi v398 v400
  let c8_i32 : BitVec 32 := 8#32
  let c0_i32_127 : BitVec 32 := 0#32
  let v402 : BitVec 1 := Scalar.cmpi .sgt c8_i32 c0_i32_127
  let v403 : BitVec 32 := Scalar.extui v402
  let c0_i32_128 : BitVec 32 := 0#32
  let v404 : BitVec 1 := Scalar.cmpi .slt c8_i32 c0_i32_128
  let v405 : BitVec 32 := Scalar.extui v404
  let v406 : BitVec 32 := Scalar.subi v403 v405
  let v407 : BitVec 1 := Scalar.cmpi .ne v401 v406
  let v408 : BitVec 32 := Scalar.remsi v395 c8_i32
  let c0_i32_129 : BitVec 32 := 0#32
  let v409 : BitVec 1 := Scalar.cmpi .ne v408 c0_i32_129
  let v410 : BitVec 1 := Scalar.andi v407 v409
  let v396 : BitVec 32 := Scalar.divsi v395 c8_i32
  let c1_i32_130 : BitVec 32 := 1#32
  let v411 : BitVec 32 := Scalar.subi v396 c1_i32_130
  let v412 : BitVec 32 := Scalar.select v410 v411 v396
  let c8_i32_135 : BitVec 32 := 8#32
  let v420 : BitVec 32 := Scalar.muli v412 c8_i32_135
  let v421 : BitVec 32 := Scalar.addi c0_i32_136 v420
  let v422 : BitVec 32 := Scalar.subi arg1 v421
  let c0_i32_137 : BitVec 32 := 0#32
  let v424 : BitVec 1 := Scalar.cmpi .sgt v422 c0_i32_137
  let v425 : BitVec 32 := Scalar.extui v424
  let c0_i32_138 : BitVec 32 := 0#32
  let v426 : BitVec 1 := Scalar.cmpi .slt v422 c0_i32_138
  let v427 : BitVec 32 := Scalar.extui v426
  let v428 : BitVec 32 := Scalar.subi v425 v427
  let c4_i32 : BitVec 32 := 4#32
  let c0_i32_139 : BitVec 32 := 0#32
  let v429 : BitVec 1 := Scalar.cmpi .sgt c4_i32 c0_i32_139
  let v430 : BitVec 32 := Scalar.extui v429
  let c0_i32_140 : BitVec 32 := 0#32
  let v431 : BitVec 1 := Scalar.cmpi .slt c4_i32 c0_i32_140
  let v432 : BitVec 32 := Scalar.extui v431
  let v433 : BitVec 32 := Scalar.subi v430 v432
  let v434 : BitVec 1 := Scalar.cmpi .ne v428 v433
  let v435 : BitVec 32 := Scalar.remsi v422 c4_i32
  let c0_i32_141 : BitVec 32 := 0#32
  let v436 : BitVec 1 := Scalar.cmpi .ne v435 c0_i32_141
  let v437 : BitVec 1 := Scalar.andi v434 v436
  let v423 : BitVec 32 := Scalar.divsi v422 c4_i32
  let c1_i32_142 : BitVec 32 := 1#32
  let v438 : BitVec 32 := Scalar.subi v423 c1_i32_142
  let v439 : BitVec 32 := Scalar.select v437 v438 v423
  let c4_i32_147 : BitVec 32 := 4#32
  let v447 : BitVec 32 := Scalar.muli v439 c4_i32_147
  let v448 : BitVec 32 := Scalar.addi v421 v447
  let v449 : BitVec 32 := Scalar.subi arg1 v448
  let c1_i32_148 : BitVec 32 := 1#32
  let v451 : BitVec 32 := Scalar.divsi v449 c1_i32_148
  let v452 : BitVec 32 := Scalar.muli v451 c1_i32_148
  let v453 : BitVec 32 := Scalar.addi v448 v452
  let c1_i32_150 : BitVec 32 := 1#32
  let arg14 : BitVec 32 := Scf.iv v453 c1_i32_150 k0_t6
  let c256_i32_155 : BitVec 32 := 256#32
  let v472 : BitVec 32 := Scalar.muli arg14 c256_i32_155
  let v473 : BitVec 32 := v472
  let v495 : Index := Scalar.indexCast v473
  ![v494.toNat, v495.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S16640x512 : Shape := ⟨2, ![16640, 512]⟩
abbrev S16384x8 : Shape := ⟨2, ![16384, 8]⟩
abbrev S8 : Shape := ⟨1, ![8]⟩
abbrev S64x512 : Shape := ⟨2, ![64, 512]⟩
abbrev S16384x512 : Shape := ⟨2, ![16384, 512]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 55
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x512, .f32⟩
  | .hbm, ⟨3, _⟩ => ⟨S16384x8, .f32⟩
  | .hbm, ⟨4, _⟩ => ⟨S16640x512, .f32⟩
  | .hbm, ⟨5, _⟩ => ⟨S16640x512, .f32⟩
  | .hbm, ⟨6, _⟩ => ⟨S16640x512, .f32⟩
  | .hbm, ⟨7, _⟩ => ⟨S8, .f32⟩
  | .hbm, ⟨8, _⟩ => ⟨S64x512, .f32⟩
  | .hbm, ⟨9, _⟩ => ⟨S16384x512, .f32⟩
  | .hbm, ⟨10, _⟩ => ⟨S16384x8x64, .f32⟩
  | .hbm, ⟨11, _⟩ => ⟨S16384x512, .f32⟩
  | .hbm, ⟨12, _⟩ => ⟨S16384x8x64, .f32⟩
  | .hbm, ⟨13, _⟩ => ⟨S16384x512, .f32⟩
  | .hbm, ⟨14, _⟩ => ⟨S16384x8x64, .f32⟩
  | .hbm, ⟨15, _⟩ => ⟨S8x16384x16384, .f32⟩
  | .hbm, ⟨16, _⟩ => ⟨S_, .f32⟩
  | .hbm, ⟨17, _⟩ => ⟨S8x16384x16384, .f32⟩
  | .hbm, ⟨18, _⟩ => ⟨S8x16384x16384, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384, .f32⟩
  | .hbm, ⟨24, _⟩ => ⟨S8x1x16384, .f32⟩
  | .hbm, ⟨25, _⟩ => ⟨S8x16384x16384, .f32⟩
  | .hbm, ⟨26, _⟩ => ⟨S8x16384x16384, .f32⟩
  | .hbm, ⟨27, _⟩ => ⟨S16384, .i32⟩
  | .hbm, ⟨28, _⟩ => ⟨S1x16384, .i32⟩
  | .hbm, ⟨29, _⟩ => ⟨S16384x1, .i32⟩
  | .hbm, ⟨30, _⟩ => ⟨S16384x16384, .i32⟩
  | .hbm, ⟨31, _⟩ => ⟨S16384x16384, .i32⟩
  | .hbm, ⟨32, _⟩ => ⟨S16384x16384, .i1⟩
  | .hbm, ⟨33, _⟩ => ⟨S_, .f32⟩
  | .hbm, ⟨34, _⟩ => ⟨S_, .f32⟩
  | .hbm, ⟨35, _⟩ => ⟨S8x16384x16384, .i1⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S8x16384x1, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S_, .f32⟩
  | .hbm, ⟨48, _⟩ => ⟨S8x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x64x16384, .f32⟩
  | .hbm, ⟨53, _⟩ => ⟨S16384x8x64, .f32⟩
  | .hbm, ⟨54, _⟩ => ⟨S16384x512, .f32⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel2.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16640x1024, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S16640x1024, .f32⟩
  | .hbm, ⟨21, _⟩ => ⟨S16640x1024, .f32⟩
  | .hbm, ⟨22, _⟩ => ⟨S16640x2816, .f32⟩
  | .hbm, ⟨23, _⟩ => ⟨S16640x2816, .f32⟩
  | .hbm, ⟨24, _⟩ => ⟨S16640x2816, .f32⟩
  | .hbm, ⟨25, _⟩ => ⟨S_, .f32⟩
  | .hbm, ⟨26, _⟩ => ⟨S16640x2816, .f32⟩
  | .hbm, ⟨27, _⟩ => ⟨S16640x2816, .f32⟩
  | .hbm, ⟨28, _⟩ => ⟨S_, .f32⟩
  | .hbm, ⟨29, _⟩ => ⟨S16640x2816, .f32⟩
  | .hbm, ⟨30, _⟩ => ⟨S16640x2816, .f32⟩
  | .hbm, ⟨31, _⟩ => ⟨S16640x2816, .f32⟩
  | .hbm, ⟨32, _⟩ => ⟨S16640x2816, .f32⟩
  | .hbm, ⟨33, _⟩ => ⟨S16640x2816, .f32⟩
  | .hbm, ⟨34, _⟩ => ⟨S16640x1024, .f32⟩
  | .hbm, ⟨35, _⟩ => ⟨S16640x1024, .f32⟩
  | .hbm, ⟨36, _⟩ => ⟨S_, .f32⟩
  | .hbm, ⟨37, _⟩ => ⟨S16640, .f32⟩
  | .hbm, ⟨38, _⟩ => ⟨S16640x1, .f32⟩
  | .hbm, ⟨39, _⟩ => ⟨S_, .f32⟩
  | .hbm, ⟨40, _⟩ => ⟨S16640x1, .f32⟩
  | .hbm, ⟨41, _⟩ => ⟨S16640x1, .f32⟩
  | .hbm, ⟨42, _⟩ => ⟨S_, .f32⟩
  | .hbm, ⟨43, _⟩ => ⟨S16640x1, .f32⟩
  | .hbm, ⟨44, _⟩ => ⟨S16640x1, .f32⟩
  | .hbm, ⟨45, _⟩ => ⟨S16640x1, .f32⟩
  | .hbm, ⟨46, _⟩ => ⟨S16640x1024, .f32⟩
  | .hbm, ⟨47, _⟩ => ⟨S16640x1024, .f32⟩
  | .hbm, ⟨48, _⟩ => ⟨S1x1024, .f32⟩
  | .hbm, ⟨49, _⟩ => ⟨S16640x1024, .f32⟩
  | .hbm, ⟨50, _⟩ => ⟨S16640x1024, .f32⟩
  | .hbm, ⟨51, _⟩ => ⟨S_, .f32⟩
  | .hbm, ⟨52, _⟩ => ⟨S16640x1024, .f32⟩
  | .hbm, ⟨53, _⟩ => ⟨S16640x1024, .f32⟩
  | .hbm, ⟨54, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S16640x1024 : Shape := ⟨2, ![16640, 1024]⟩
abbrev S1024 : Shape := ⟨1, ![1024]⟩
abbrev S1024x7944 : Shape := ⟨2, ![1024, 7944]⟩
abbrev S8 : Shape := ⟨1, ![8]⟩
abbrev S1024x1536 : Shape := ⟨2, ![1024, 1536]⟩
abbrev S1024x64 : Shape := ⟨2, ![1024, 64]⟩
abbrev S1024x128 : Shape := ⟨2, ![1024, 128]⟩
abbrev S1024x8 : Shape := ⟨2, ![1024, 8]⟩
abbrev S1024x3072 : Shape := ⟨2, ![1024, 3072]⟩
abbrev S_ : Shape := ⟨0, ![]⟩
abbrev S1024x120 : Shape := ⟨2, ![1024, 120]⟩
abbrev S1024x8192 : Shape := ⟨2, ![1024, 8192]⟩
abbrev S120 : Shape := ⟨1, ![120]⟩
abbrev S128 : Shape := ⟨1, ![128]⟩
abbrev S1x128 : Shape := ⟨2, ![1, 128]⟩
abbrev S1x1024 : Shape := ⟨2, ![1, 1024]⟩
abbrev S16640x1920 : Shape := ⟨2, ![16640, 1920]⟩
abbrev S16640x512 : Shape := ⟨2, ![16640, 512]⟩
abbrev S16640x128 : Shape := ⟨2, ![16640, 128]⟩
abbrev S16640x3072 : Shape := ⟨2, ![16640, 3072]⟩
abbrev S256x1024 : Shape := ⟨2, ![256, 1024]⟩
abbrev S256x1920 : Shape := ⟨2, ![256, 1920]⟩
abbrev S256x512 : Shape := ⟨2, ![256, 512]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S1024x1920 : Shape := ⟨2, ![1024, 1920]⟩
abbrev S1024x512 : Shape := ⟨2, ![1024, 512]⟩

abbrev nBuf : Space → Nat
  | .hbm => 39
  | .vmem => 33
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x7944, .f32⟩
  | .hbm, ⟨3, _⟩ => ⟨S8, .f32⟩
  | .hbm, ⟨4, _⟩ => ⟨S1024x1536, .f32⟩
  | .hbm, ⟨5, _⟩ => ⟨S1024x64, .f32⟩
  | .hbm, ⟨6, _⟩ => ⟨S1024x64, .f32⟩
  | .hbm, ⟨7, _⟩ => ⟨S1024x128, .f32⟩
  | .hbm, ⟨8, _⟩ => ⟨S1024x1536, .f32⟩
  | .hbm, ⟨9, _⟩ => ⟨S1024x8, .f32⟩
  | .hbm, ⟨10, _⟩ => ⟨S1024x1536, .f32⟩
  | .hbm, ⟨11, _⟩ => ⟨S1024x3072, .f32⟩
  | .hbm, ⟨12, _⟩ => ⟨S_, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S1024x120, .f32⟩
  | .hbm, ⟨18, _⟩ => ⟨S1024x8192, .f32⟩
  | .hbm, ⟨19, _⟩ => ⟨S_, .f32⟩
  | .hbm, ⟨20, _⟩ => ⟨S120, .f32⟩
  | .hbm, ⟨21, _⟩ => ⟨S128, .f32⟩
  | .hbm, ⟨22, _⟩ => ⟨S1x128, .f32⟩
  | .hbm, ⟨23, _⟩ => ⟨S1024x8192, .bf16⟩
  | .hbm, ⟨24, _⟩ => ⟨S1x1024, .f32⟩
  | .hbm, ⟨25, _⟩ => ⟨S16640x1024, .f32⟩
  | .hbm, ⟨26, _⟩ => ⟨S16640x1920, .f32⟩
  | .hbm, ⟨27, _⟩ => ⟨S16640x512, .f32⟩
  | .hbm, ⟨28, _⟩ => ⟨S16640x512, .f32⟩
  | .hbm, ⟨29, _⟩ => ⟨S16640x512, .f32⟩
  | .hbm, ⟨30, _⟩ => ⟨S16640x512, .bf16⟩
  | .hbm, ⟨31, _⟩ => ⟨S16640x512, .bf16⟩
  | .hbm, ⟨32, _⟩ => ⟨S16640x128, .f32⟩
  | .hbm, ⟨33, _⟩ => ⟨S16640x512, .f32⟩
  | .hbm, ⟨34, _⟩ => ⟨S16640x512, .f32⟩
  | .hbm, ⟨35, _⟩ => ⟨S16640x512, .f32⟩
  | .hbm, ⟨36, _⟩ => ⟨S16640x512, .bf16⟩
  | .hbm, ⟨37, _⟩ => ⟨S16640x512, .bf16⟩
  | .hbm, ⟨38, _⟩ => ⟨S16640x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8192, .bf16⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1920, .f32⟩
  | .local _ .vmem, ⟨8, _⟩ => ⟨S256x1920, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x128, .f32⟩
  | .local _ .vmem, ⟨20, _⟩ => ⟨S256x128, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x3072, .f32⟩
  | .local _ .vmem, ⟨32, _⟩ => ⟨S256x3072, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_v17_6 : Ref sig .tc := ⟨.hbm, 31, rfl⟩
abbrev main_v17_7 : Ref sig .tc := ⟨.hbm, 32, rfl⟩
abbrev main_v17_8 : Ref sig .tc := ⟨.hbm, 33, rfl⟩
abbrev main_v17_9 : Ref sig .tc := ⟨.hbm, 34, rfl⟩
abbrev main_v17_10 : Ref sig .tc := ⟨.hbm, 35, rfl⟩
abbrev main_v17_11 : Ref sig .tc := ⟨.hbm, 36, rfl⟩
abbrev main_v17_12 : Ref sig .tc := ⟨.hbm, 37, rfl⟩
abbrev main_v17_13 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16640x1024 : Shape := ⟨2, ![16640, 1024]⟩
abbrev S1024 : Shape := ⟨1, ![1024]⟩
abbrev S1024x7944 : Shape := ⟨2, ![1024, 7944]⟩
abbrev S8 : Shape := ⟨1, ![8]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x7944 : Shape := ⟨2, ![16640, 7944]⟩
abbrev S16640x1792 : Shape := ⟨2, ![16640, 1792]⟩
abbrev S16640x512 : Shape := ⟨2, ![16640, 512]⟩
abbrev S16640x8 : Shape := ⟨2, ![16640, 8]⟩
abbrev S16640x3072 : Shape := ⟨2, ![16640, 3072]⟩
abbrev S1x8 : Shape := ⟨2, ![1, 8]⟩
abbrev S16640x128 : Shape := ⟨2, ![16640, 128]⟩
abbrev S16640x1536 : Shape := ⟨2, ![16640, 1536]⟩
abbrev S16640x64 : Shape := ⟨2, ![16640, 64]⟩
abbrev S16640x1920 : Shape := ⟨2, ![16640, 1920]⟩

abbrev nBuf : Space → Nat
  | .hbm => 75
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x7944, .f32⟩
  | .hbm, ⟨3, _⟩ => ⟨S8, .f32⟩
  | .hbm, ⟨4, _⟩ => ⟨S16640x1024, .f32⟩
  | .hbm, ⟨5, _⟩ => ⟨S_, .f32⟩
  | .hbm, ⟨6, _⟩ => ⟨S16640, .f32⟩
  | .hbm, ⟨7, _⟩ => ⟨S16640x1, .f32⟩
  | .hbm, ⟨8, _⟩ => ⟨S_, .f32⟩
  | .hbm, ⟨9, _⟩ => ⟨S16640x1, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S16640x1024, .f32⟩
  | .hbm, ⟨16, _⟩ => ⟨S16640x1024, .f32⟩
  | .hbm, ⟨17, _⟩ => ⟨S1x1024, .f32⟩
  | .hbm, ⟨18, _⟩ => ⟨S16640x1024, .f32⟩
  | .hbm, ⟨19, _⟩ => ⟨S16640x1024, .f32⟩
  | .hbm, ⟨20, _⟩ => ⟨S16640x7944, .f32⟩
  | .hbm, ⟨21, _⟩ => ⟨S16640x1792, .f32⟩
  | .hbm, ⟨22, _⟩ => ⟨S16640x512, .f32⟩
  | .hbm, ⟨23, _⟩ => ⟨S16640x512, .f32⟩
  | .hbm, ⟨24, _⟩ => ⟨S16640x512, .f32⟩
  | .hbm, ⟨25, _⟩ => ⟨S16640x8, .f32⟩
  | .hbm, ⟨26, _⟩ => ⟨S16640x512, .f32⟩
  | .hbm, ⟨27, _⟩ => ⟨S16640x512, .f32⟩
  | .hbm, ⟨28, _⟩ => ⟨S16640x512, .f32⟩
  | .hbm, ⟨29, _⟩ => ⟨S16640x3072, .f32⟩
  | .hbm, ⟨30, _⟩ => ⟨S1x8, .f32⟩
  | .hbm, ⟨31, _⟩ => ⟨S16640x8, .f32⟩
  | .hbm, ⟨32, _⟩ => ⟨S16640x8, .f32⟩
  | .hbm, ⟨33, _⟩ => ⟨S_, .i32⟩
  | .hbm, ⟨34, _⟩ => ⟨S_, .f32⟩
  | .hbm, ⟨35, _⟩ => ⟨S16640x128, .f32⟩
  | .hbm, ⟨36, _⟩ => ⟨S16640x128, .f32⟩
  | .hbm, ⟨37, _⟩ => ⟨S_, .f32⟩
  | .hbm, ⟨38, _⟩ => ⟨S16640x128, .f32⟩
  | .hbm, ⟨39, _⟩ => ⟨S16640x128, .f32⟩
  | .hbm, ⟨40, _⟩ => ⟨S16640x128, .f32⟩
  | .hbm, ⟨41, _⟩ => ⟨S16640x128, .f32⟩
  | .hbm, ⟨42, _⟩ => ⟨S16640x128, .i1⟩
  | .hbm, ⟨43, _⟩ => ⟨S16640x128, .f32⟩
  | .hbm, ⟨44, _⟩ => ⟨S16640x128, .f32⟩
  | .hbm, ⟨45, _⟩ => ⟨S16640x128, .f32⟩
  | .hbm, ⟨46, _⟩ => ⟨S16640x128, .f32⟩
  | .hbm, ⟨47, _⟩ => ⟨S16640x128, .f32⟩
  | .hbm, ⟨48, _⟩ => ⟨S16640x128, .f32⟩
  | .hbm, ⟨49, _⟩ => ⟨S16640x128, .f32⟩
  | .hbm, ⟨50, _⟩ => ⟨S16640x128, .f32⟩
  | .hbm, ⟨51, _⟩ => ⟨S16640x128, .f32⟩
  | .hbm, ⟨52, _⟩ => ⟨S16640x3072, .f32⟩
  | .hbm, ⟨53, _⟩ => ⟨S16640x3072, .f32⟩
  | .hbm, ⟨54, _⟩ => ⟨S_, .f32⟩
  | .hbm, ⟨55, _⟩ => ⟨S16640x3072, .f32⟩
  | .hbm, ⟨56, _⟩ => ⟨S16640x3072, .f32⟩
  | .hbm, ⟨57, _⟩ => ⟨S_, .f32⟩
  | .hbm, ⟨58, _⟩ => ⟨S16640x3072, .f32⟩
  | .hbm, ⟨59, _⟩ => ⟨S16640x3072, .f32⟩
  | .hbm, ⟨60, _⟩ => ⟨S16640x1536, .f32⟩
  | .hbm, ⟨61, _⟩ => ⟨S16640x64, .f32⟩
  | .hbm, ⟨62, _⟩ => ⟨S16640x64, .f32⟩
  | .hbm, ⟨63, _⟩ => ⟨S16640x128, .f32⟩
  | .hbm, ⟨64, _⟩ => ⟨S_, .i32⟩
  | .hbm, ⟨65, _⟩ => ⟨S_, .f32⟩
  | .hbm, ⟨66, _⟩ => ⟨S16640x128, .f32⟩
  | .hbm, ⟨67, _⟩ => ⟨S_, .i32⟩
  | .hbm, ⟨68, _⟩ => ⟨S_, .f32⟩
  | .hbm, ⟨69, _⟩ => ⟨S16640x128, .f32⟩
  | .hbm, ⟨70, _⟩ => ⟨S16640x1920, .f32⟩
  | .hbm, ⟨71, _⟩ => ⟨S16640x512, .bf16⟩
  | .hbm, ⟨72, _⟩ => ⟨S16640x512, .bf16⟩
  | .hbm, ⟨73, _⟩ => ⟨S16640x512, .bf16⟩
  | .hbm, ⟨74, _⟩ => ⟨S16640x512, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_call2_v0 : Ref sig .tc := ⟨.hbm, 65, rfl⟩
abbrev main_v38 : Ref sig .tc := ⟨.hbm, 66, rfl⟩
abbrev main_c_5 : Ref sig .tc := ⟨.hbm, 67, rfl⟩
abbrev main_call3_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]
-- ==== Kernel4.lean ====
abbrev S16640x1024 : Shape := ⟨2, ![16640, 1024]⟩
abbrev S16640x3072 : Shape := ⟨2, ![16640, 3072]⟩
abbrev S16640x512 : Shape := ⟨2, ![16640, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x3072 : Shape := ⟨2, ![256, 3072]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S16640x1024, .f32⟩
  | .hbm, ⟨1, _⟩ => ⟨S16640x3072, .f32⟩
  | .hbm, ⟨2, _⟩ => ⟨S16640x512, .f32⟩
  | .hbm, ⟨3, _⟩ => ⟨S16640x512, .f32⟩
  | .hbm, ⟨4, _⟩ => ⟨S16640x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16640x1024 : Shape := ⟨2, ![16640, 1024]⟩
abbrev S16640x3072 : Shape := ⟨2, ![16640, 3072]⟩
abbrev S16640x512 : Shape := ⟨2, ![16640, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x3072, .f32⟩
  | .hbm, ⟨2, _⟩ => ⟨S16640x512, .f32⟩
  | .hbm, ⟨3, _⟩ => ⟨S16640x512, .f32⟩
  | .hbm, ⟨4, _⟩ => ⟨S16640x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S16640x1024, .f32⟩
  | .hbm, ⟨11, _⟩ => ⟨S16640x1024, .f32⟩
  | .hbm, ⟨12, _⟩ => ⟨S16640x1024, .f32⟩
  | .hbm, ⟨13, _⟩ => ⟨S16640x1024, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S16640x1024, .f32⟩
  | .hbm, ⟨19, _⟩ => ⟨S16640x1024, .f32⟩
  | .hbm, ⟨20, _⟩ => ⟨S16640x1024, .f32⟩
  | .hbm, ⟨21, _⟩ => ⟨S16640x1024, .f32⟩
  | .hbm, ⟨22, _⟩ => ⟨S16640x1024, .f32⟩
  | .hbm, ⟨23, _⟩ => ⟨S_, .f32⟩
  | .hbm, ⟨24, _⟩ => ⟨S16640, .f32⟩
  | .hbm, ⟨25, _⟩ => ⟨S16640x1, .f32⟩
  | .hbm, ⟨26, _⟩ => ⟨S_, .f32⟩
  | .hbm, ⟨27, _⟩ => ⟨S16640x1, .f32⟩
  | .hbm, ⟨28, _⟩ => ⟨S16640x1, .f32⟩
  | .hbm, ⟨29, _⟩ => ⟨S_, .f32⟩
  | .hbm, ⟨30, _⟩ => ⟨S16640x1, .f32⟩
  | .hbm, ⟨31, _⟩ => ⟨S16640x1, .f32⟩
  | .hbm, ⟨32, _⟩ => ⟨S16640x1, .f32⟩
  | .hbm, ⟨33, _⟩ => ⟨S16640x1024, .f32⟩
  | .hbm, ⟨34, _⟩ => ⟨S16640x1024, .f32⟩
  | .hbm, ⟨35, _⟩ => ⟨S1x1024, .f32⟩
  | .hbm, ⟨36, _⟩ => ⟨S16640x1024, .f32⟩
  | .hbm, ⟨37, _⟩ => ⟨S16640x1024, .f32⟩
  | .hbm, ⟨38, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Rows.lean ====
/-
  Row arithmetic shared by the value proofs: the root-mean-square normalisation and the gated feed-forward block of one
  row, over the extended reals.
-/
module

public import Idealize.ShloMosaic.Lib.Pointwise
public import Idealize.ShloMosaic.Lib.Pipeline.Value

@[expose] public section

noncomputable section

namespace Cert.Rows

open Idealize.ShloMosaic

/-- The row length, 1024, as the programs write it. -/
abbrev cN : EReal := Ideal.ofBits .f32 0x44800000#32
/-- The small number added to the mean square. -/
abbrev cEps : EReal := Ideal.ofBits .f32 0x358637BD#32
/-- One half. -/
abbrev cHalf : EReal := Ideal.ofBits .f32 0x3F000000#32

/-- Entry `k` of a row of 1024 numbers divided by its root mean square and multiplied by the gain. -/
def rms (v g : Fin 1024 → EReal) (k : Fin 1024) : EReal :=
  v k * Ideal.rsqrt (Ideal.div (∑ j, v j * v j) cN + cEps) * g k

/-- The logistic function, as a quotient. -/
def sig (z : EReal) : EReal := Ideal.div 1 (1 + Ideal.exp (-z))

/-- A row times a matrix. -/
def rowMul {K N : Nat} (v : Fin K → EReal) (w : Fin K → Fin N → EReal) (n : Fin N) : EReal := ∑ k, v k * w k n

/-- The gated hidden row: `silu (v wg) · (v wu)`. -/
def gated (v : Fin 1024 → EReal) (wg wu : Fin 1024 → Fin 2816 → EReal) (n : Fin 2816) : EReal :=
  rowMul v wg n * sig (rowMul v wg n) * rowMul v wu n

/-- One row of the feed-forward block with its residual: `x + ½ · rms (swiglu (rms x))`. -/
def ffn (x gpre gpost : Fin 1024 → EReal) (wg wu : Fin 1024 → Fin 2816 → EReal) (wd : Fin 2816 → Fin 1024 → EReal)
    (l : Fin 1024) : EReal :=
  x l + cHalf * rms (rowMul (gated (rms x gpre) wg wu) wd) gpost l

/-- The gated sum of the three mixers' projections, gate `j` in columns `1024 j …`. -/
def mixed (gt : Fin 3072 → EReal) (a b c : Fin 512 → EReal) (wa wb wc : Fin 512 → Fin 1024 → EReal) (l : Fin 1024) : EReal :=
  gt ⟨l, by omega⟩ * rowMul a wa l + gt ⟨1024 + l, by omega⟩ * rowMul b wb l + gt ⟨2048 + l, by omega⟩ * rowMul c wc l

/-- One row of the merge: `h + rms (mixed wo)`. -/
def merge (h g : Fin 1024 → EReal) (gt : Fin 3072 → EReal) (a b c : Fin 512 → EReal)
    (wa wb wc : Fin 512 → Fin 1024 → EReal) (wo : Fin 1024 → Fin 1024 → EReal) (l : Fin 1024) : EReal :=
  h l + rms (rowMul (mixed gt a b c wa wb wc) wo) g l

/-- The inner product of two rows. -/
def dot {K : Nat} (v w : Fin K → EReal) : EReal := ∑ k, v k * w k

/-- The logarithm of the logistic function, without overflow: `-(max (-z) 0 + log (1 + exp (-|z|)))`. -/
def logSig (z : EReal) : EReal := -(max (-z) 0 + Ideal.log1p (Ideal.exp (-(max (-z) (-(-z))))))

/-- The packed weights: the columns of `w` in the order the projection takes them, with zero columns that fill groups up to
    whole lanes of 128. -/
def pack (w : Fin 1024 → Fin 7944 → EReal) (k : Fin 1024) (n : Fin 8192) : EReal :=
  if h0 : n.val < 1600 then w k ⟨n, by omega⟩
  else if n.val < 1664 then 0
  else if h1 : n.val < 1728 then w k ⟨n - 64, by omega⟩
  else if n.val < 1792 then 0
  else if h2 : n.val < 3456 then w k ⟨n - 128, by omega⟩
  else if h3 : n.val < 8064 then w k ⟨n - 120, by omega⟩
  else if h4 : n.val < 8072 then w k ⟨n - 4736, by omega⟩
  else 0

/-- The packed weights at a column that holds one of `w`. -/
theorem pack_of (w : Fin 1024 → Fin 7944 → EReal) (k : Fin 1024) (n : Fin 8192) (j : Fin 7944)
    (h : (n.val < 1600 ∧ j.val = n.val) ∨ (1664 ≤ n.val ∧ n.val < 1728 ∧ j.val + 64 = n.val)
      ∨ (1792 ≤ n.val ∧ n.val < 3456 ∧ j.val + 128 = n.val) ∨ (3456 ≤ n.val ∧ n.val < 8064 ∧ j.val + 120 = n.val)
      ∨ (8064 ≤ n.val ∧ n.val < 8072 ∧ j.val + 4736 = n.val)) : pack w k n = w k j := by
  unfold pack
  rcases h with h | h | h | h | h
  · rw [dif_pos h.1]; exact congrArg (w k) (Fin.ext (by dsimp only; omega))
  · rw [dif_neg (by omega), if_neg (by omega), dif_pos (by omega)]
    exact congrArg (w k) (Fin.ext (by dsimp only; omega))
  · rw [dif_neg (by omega), if_neg (by omega), dif_neg (by omega), if_neg (by omega), dif_pos (by omega)]
    exact congrArg (w k) (Fin.ext (by dsimp only; omega))
  · rw [dif_neg (by omega), if_neg (by omega), dif_neg (by omega), if_neg (by omega), dif_neg (by omega), dif_pos (by omega)]
    exact congrArg (w k) (Fin.ext (by dsimp only; omega))
  · rw [dif_neg (by omega), if_neg (by omega), dif_neg (by omega), if_neg (by omega), dif_neg (by omega), dif_neg (by omega),
      dif_pos (by omega)]
    exact congrArg (w k) (Fin.ext (by dsimp only; omega))

/-- The packed weights at a filling column. -/
theorem pack_zero (w : Fin 1024 → Fin 7944 → EReal) (k : Fin 1024) (n : Fin 8192)
    (h : (1600 ≤ n.val ∧ n.val < 1664) ∨ (1728 ≤ n.val ∧ n.val < 1792) ∨ 8072 ≤ n.val) : pack w k n = 0 := by
  unfold pack
  rcases h with h | h | h
  · rw [dif_neg (by omega), if_pos (by omega)]
  · rw [dif_neg (by omega), if_neg (by omega), dif_neg (by omega), if_pos (by omega)]
  · rw [dif_neg (by omega), if_neg (by omega), dif_neg (by omega), if_neg (by omega), dif_neg (by omega), dif_neg (by omega),
      dif_neg (by omega)]

/-- The bias, filled up with zeros to 128. -/
def packBias (b : Fin 8 → EReal) (n : Fin 128) : EReal := if h : n.val < 8 then b ⟨n, h⟩ else 0

/-- The all-zero pair of offsets, as a function. -/
theorem hz : (![0, 0] : Fin 2 → Nat) = fun _ => 0 := funext fun a => by fin_cases a <;> rfl

end Cert.Rows

end
-- ==== Proof.Ffn.lean ====
/-
  The value of the feed-forward call: every row of its result is `Rows.ffn` of the arguments' row, and so is every row of
  the plain reference.
-/
module

public import proofs.«01_k».proof.Defs
public import proofs.«01_k».proof.Proof.Gen.Kernel2Ideal.Value
public import proofs.«01_k».proof.Proof.Gen.Reference2Ideal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

/-- The block a grid point computes, at row `r` and column `l`: the feed-forward row of the blocks' row `r`. -/
theorem block_apply (x0 : FVec Ideal S256x1024 .f32) (x1 x2 : FVec Ideal S1x1024 .f32) (x3 x4 : FVec Ideal S1024x2816 .bf16)
    (x5 : FVec Ideal S2816x1024 .bf16) (r : Fin 256) (l : Fin 1024) :
    out0_6 (F := Ideal) x0 x1 x2 x3 x4 x5 (ix2 r l)
      = Rows.ffn (fun k => x0 (ix2 r k)) (fun k => x1 (ix2 0 k)) (fun k => x2 (ix2 0 k)) (fun k n => x3 (ix2 k n))
          (fun k n => x4 (ix2 k n)) (fun k n => x5 (ix2 k n)) l := by
  unfold out0_6
  rw [View.canon_unit_zero Rows.hz, View.ld_unit_zero Rows.hz, View.ld_unit_zero Rows.hz, View.ld_unit_zero Rows.hz,
    View.ld_unit_zero Rows.hz, View.ld_unit_zero Rows.hz, View.ld_unit_zero Rows.hz]
  pointwise [k0_pay1, k0_pay2, k0_pay3, k0_pay4]
  simp only [Rows.ffn, Rows.rms, Rows.gated, Rows.rowMul, Rows.sig, zero_sub]

/-- Where each window's block lies at grid point `t`: the rows move with the point, everything else stays. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ) (ρ : Dev nD → PrngReg)

/-- The result array as one function of the argument arrays: row by row `Rows.ffn`. -/
def G (c : Dev nD) : Buf (Elt Ideal) ((c.tc : Thread nD τ).loc main_v5) := fun i : S16640x1024.Idx =>
  Rows.ffn (fun k => (m ((c.tc : Thread nD τ).loc main_arg0) : FVec Ideal S16640x1024 .f32) (ix2 (i 0) k))
    (fun k => (m ((c.tc : Thread nD τ).loc main_arg1) : FVec Ideal S1024 .f32) (ix1 k))
    (fun k => (m ((c.tc : Thread nD τ).loc main_arg2) : FVec Ideal S1024 .f32) (ix1 k))
    (fun k n => (m ((c.tc : Thread nD τ).loc main_arg3) : FVec Ideal S1024x2816 .f32) (ix2 k n))
    (fun k n => (m ((c.tc : Thread nD τ).loc main_arg4) : FVec Ideal S1024x2816 .f32) (ix2 k n))
    (fun k n => (m ((c.tc : Thread nD τ).loc main_arg5) : FVec Ideal S2816x1024 .f32) (ix2 k n)) (i 1)

/-- The result array after the run. -/
theorem final (c : Dev nD) : (dats m 0 c).arrAt 6 cfg0.N = G m c := by
  refine (dats m 0 c).arrAt_eq_of_covers 6 _ (by decide +kernel) fun t hf y => ?_
  blk_simp
  rw [after0_6]
  idx_vars y
  rw [block_apply]
  unfold G
  blk_point [iblk, V, idx t]

end Cert.Kernel2Ideal.Hand

namespace Cert.Reference2Ideal.Hand

open Cert.Reference2Ideal Cert.Reference2Ideal.Gen

/-- The reference's result at row `r` and column `l`: the feed-forward row of the arguments' row `r`. -/
theorem res_apply (m : (ℓ : Loc nD τ sig) → Buf (Elt Ideal) ℓ) (c : Dev nD) (r : Fin 16640) (l : Fin 1024) :
    Value.res_out0 (F := Ideal) m c (ix2 r l)
      = Rows.ffn (fun k => (m ((c.tc : Thread nD τ).loc main_arg0) : FVec Ideal S16640x1024 .f32) (ix2 r k))
          (fun k => (m ((c.tc : Thread nD τ).loc main_arg1) : FVec Ideal S1024 .f32) (ix1 k))
          (fun k => (m ((c.tc : Thread nD τ).loc main_arg2) : FVec Ideal S1024 .f32) (ix1 k))
          (fun k n => (m ((c.tc : Thread nD τ).loc main_arg3) : FVec Ideal S1024x2816 .f32) (ix2 k n))
          (fun k n => (m ((c.tc : Thread nD τ).loc main_arg4) : FVec Ideal S1024x2816 .f32) (ix2 k n))
          (fun k n => (m ((c.tc : Thread nD τ).loc main_arg5) : FVec Ideal S2816x1024 .f32) (ix2 k n)) l := by
  show Value.res_main_v33 (F := Ideal) m c (ix2 r l) = _
  unfold Value.res_main_v33
  pointwise
  simp only [Rows.ffn, Rows.rms, Rows.gated, Rows.rowMul, Rows.sig, zero_sub]

end Cert.Reference2Ideal.Hand

namespace Cert.Proof.Ffn

/-- The feed-forward call and the plain reference end with equal results from memories that agree on the arguments. -/
theorem algebraic : Cert.algebraic_Kernel2Ideal_Reference2Ideal := by
  intro m g m' g' _ h
  refine ⟨fun c => Cert.Kernel2Ideal.Hand.G m c, ?_, ?_⟩
  · exact (θ_run Cert.Kernel2Ideal.defs _ _).mono
      (fun _ hr c => ⟨(hr c).1.trans (Cert.Kernel2Ideal.Hand.final m c), (hr c).2⟩)
      (Cert.Kernel2Ideal.Value.run_blocks (F := Ideal) m g)
  · refine (θ_run Cert.Reference2Ideal.defs _ _).mono (fun _ hr c => ⟨(hr c).1.trans ?_, (hr c).2⟩)
      (Cert.Reference2Ideal.Value.run (F := Ideal) m' g')
    obtain ⟨h0, h1, h2, h3, h4, h5⟩ := h c
    funext i
    have e : i = ix2 (i 0) (i 1) := funext fun a => by fin_cases a <;> rfl
    rw [e]
    refine (Cert.Reference2Ideal.Hand.res_apply m' c (i 0) (i 1)).trans ?_
    rw [h0, h1, h2, h3, h4, h5]
    rfl

end Cert.Proof.Ffn

end
-- ==== Proof.InprojBlock.lean ====
/-
  What one grid point of the input projection computes, for each of its fourteen results, and the blocks that it reads.
-/
module

public import proofs.«01_k».proof.Defs
public import proofs.«01_k».proof.Proof.Gen.Kernel3Ideal.Value
public import proofs.«01_k».proof.Proof.Gen.Reference3Ideal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

/-! ## What a grid point computes -/

/-- The normalised rows. -/
theorem out4_apply (x0 : FVec Ideal S256x1024 .f32) (x1 : FVec Ideal S1x1024 .f32) (x2 : FVec Ideal S1024x8192 .bf16) (x3 : FVec Ideal S1x128 .f32) (r : Fin 256) (l : Fin 1024) :
    out0_4 (F := Ideal) x0 x1 x2 x3 (ix2 r l) = Rows.rms (fun k => x0 (ix2 r k)) (fun k => x1 (ix2 0 k)) l := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms]

/-- Columns 0 to 1919 of the projection. -/
theorem out5_apply (x0 : FVec Ideal S256x1024 .f32) (x1 : FVec Ideal S1x1024 .f32) (x2 : FVec Ideal S1024x8192 .bf16) (x3 : FVec Ideal S1x128 .f32) (r : Fin 256) (l : Fin 1920) :
    out0_5 (F := Ideal) x0 x1 x2 x3 (ix2 r l) = Rows.dot (Rows.rms (fun k => x0 (ix2 r k)) (fun k => x1 (ix2 0 k))) (fun k => x2 (ix2 k ⟨0 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 1920 to 2431 of the projection. -/
theorem out6_apply (x0 : FVec Ideal S256x1024 .f32) (x1 : FVec Ideal S1x1024 .f32) (x2 : FVec Ideal S1024x8192 .bf16) (x3 : FVec Ideal S1x128 .f32) (r : Fin 256) (l : Fin 512) :
    out0_6 (F := Ideal) x0 x1 x2 x3 (ix2 r l) = Rows.dot (Rows.rms (fun k => x0 (ix2 r k)) (fun k => x1 (ix2 0 k))) (fun k => x2 (ix2 k ⟨1920 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 2432 to 2943 of the projection. -/
theorem out7_apply (x0 : FVec Ideal S256x1024 .f32) (x1 : FVec Ideal S1x1024 .f32) (x2 : FVec Ideal S1024x8192 .bf16) (x3 : FVec Ideal S1x128 .f32) (r : Fin 256) (l : Fin 512) :
    out0_7 (F := Ideal) x0 x1 x2 x3 (ix2 r l) = Rows.dot (Rows.rms (fun k => x0 (ix2 r k)) (fun k => x1 (ix2 0 k))) (fun k => x2 (ix2 k ⟨2432 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 2944 to 3455 of the projection. -/
theorem out8_apply (x0 : FVec Ideal S256x1024 .f32) (x1 : FVec Ideal S1x1024 .f32) (x2 : FVec Ideal S1024x8192 .bf16) (x3 : FVec Ideal S1x128 .f32) (r : Fin 256) (l : Fin 512) :
    out0_8 (F := Ideal) x0 x1 x2 x3 (ix2 r l) = Rows.dot (Rows.rms (fun k => x0 (ix2 r k)) (fun k => x1 (ix2 0 k))) (fun k => x2 (ix2 k ⟨2944 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 2432 to 2943 of the projection. -/
theorem out9_apply (x0 : FVec Ideal S256x1024 .f32) (x1 : FVec Ideal S1x1024 .f32) (x2 : FVec Ideal S1024x8192 .bf16) (x3 : FVec Ideal S1x128 .f32) (r : Fin 256) (l : Fin 512) :
    out0_9 (F := Ideal) x0 x1 x2 x3 (ix2 r l) = Rows.dot (Rows.rms (fun k => x0 (ix2 r k)) (fun k => x1 (ix2 0 k))) (fun k => x2 (ix2 k ⟨2432 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 2944 to 3455 of the projection. -/
theorem out10_apply (x0 : FVec Ideal S256x1024 .f32) (x1 : FVec Ideal S1x1024 .f32) (x2 : FVec Ideal S1024x8192 .bf16) (x3 : FVec Ideal S1x128 .f32) (r : Fin 256) (l : Fin 512) :
    out0_10 (F := Ideal) x0 x1 x2 x3 (ix2 r l) = Rows.dot (Rows.rms (fun k => x0 (ix2 r k)) (fun k => x1 (ix2 0 k))) (fun k => x2 (ix2 k ⟨2944 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 3456 to 3967 of the projection. -/
theorem out12_apply (x0 : FVec Ideal S256x1024 .f32) (x1 : FVec Ideal S1x1024 .f32) (x2 : FVec Ideal S1024x8192 .bf16) (x3 : FVec Ideal S1x128 .f32) (r : Fin 256) (l : Fin 512) :
    out0_12 (F := Ideal) x0 x1 x2 x3 (ix2 r l) = Rows.dot (Rows.rms (fun k => x0 (ix2 r k)) (fun k => x1 (ix2 0 k))) (fun k => x2 (ix2 k ⟨3456 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 3968 to 4479 of the projection. -/
theorem out13_apply (x0 : FVec Ideal S256x1024 .f32) (x1 : FVec Ideal S1x1024 .f32) (x2 : FVec Ideal S1024x8192 .bf16) (x3 : FVec Ideal S1x128 .f32) (r : Fin 256) (l : Fin 512) :
    out0_13 (F := Ideal) x0 x1 x2 x3 (ix2 r l) = Rows.dot (Rows.rms (fun k => x0 (ix2 r k)) (fun k => x1 (ix2 0 k))) (fun k => x2 (ix2 k ⟨3968 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 4480 to 4991 of the projection. -/
theorem out14_apply (x0 : FVec Ideal S256x1024 .f32) (x1 : FVec Ideal S1x1024 .f32) (x2 : FVec Ideal S1024x8192 .bf16) (x3 : FVec Ideal S1x128 .f32) (r : Fin 256) (l : Fin 512) :
    out0_14 (F := Ideal) x0 x1 x2 x3 (ix2 r l) = Rows.dot (Rows.rms (fun k => x0 (ix2 r k)) (fun k => x1 (ix2 0 k))) (fun k => x2 (ix2 k ⟨4480 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 3968 to 4479 of the projection. -/
theorem out15_apply (x0 : FVec Ideal S256x1024 .f32) (x1 : FVec Ideal S1x1024 .f32) (x2 : FVec Ideal S1024x8192 .bf16) (x3 : FVec Ideal S1x128 .f32) (r : Fin 256) (l : Fin 512) :
    out0_15 (F := Ideal) x0 x1 x2 x3 (ix2 r l) = Rows.dot (Rows.rms (fun k => x0 (ix2 r k)) (fun k => x1 (ix2 0 k))) (fun k => x2 (ix2 k ⟨3968 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- Columns 4480 to 4991 of the projection. -/
theorem out16_apply (x0 : FVec Ideal S256x1024 .f32) (x1 : FVec Ideal S1x1024 .f32) (x2 : FVec Ideal S1024x8192 .bf16) (x3 : FVec Ideal S1x128 .f32) (r : Fin 256) (l : Fin 512) :
    out0_16 (F := Ideal) x0 x1 x2 x3 (ix2 r l) = Rows.dot (Rows.rms (fun k => x0 (ix2 r k)) (fun k => x1 (ix2 0 k))) (fun k => x2 (ix2 k ⟨4480 + l, by omega⟩)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot]

/-- The gates: the logistic function of columns 4992 to 8063. -/
theorem out17_apply (x0 : FVec Ideal S256x1024 .f32) (x1 : FVec Ideal S1x1024 .f32) (x2 : FVec Ideal S1024x8192 .bf16) (x3 : FVec Ideal S1x128 .f32) (r : Fin 256) (l : Fin 3072) :
    out0_17 (F := Ideal) x0 x1 x2 x3 (ix2 r l) = Rows.sig (Rows.dot (Rows.rms (fun k => x0 (ix2 r k)) (fun k => x1 (ix2 0 k))) (fun k => x2 (ix2 k ⟨4992 + l, by omega⟩))) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot, Rows.sig, zero_sub]

/-- The forget gates' logarithms, from columns 8064 to 8191 and the bias. -/
theorem out11_apply (x0 : FVec Ideal S256x1024 .f32) (x1 : FVec Ideal S1x1024 .f32) (x2 : FVec Ideal S1024x8192 .bf16) (x3 : FVec Ideal S1x128 .f32) (r : Fin 256) (l : Fin 128) :
    out0_11 (F := Ideal) x0 x1 x2 x3 (ix2 r l)
      = Rows.logSig (Rows.dot (Rows.rms (fun k => x0 (ix2 r k)) (fun k => x1 (ix2 0 k))) (fun k => x2 (ix2 k ⟨8064 + l, by omega⟩)) + x3 (ix2 0 l)) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [Rows.rms, Rows.dot, Rows.logSig, zero_sub]
  rfl

/-! ## The blocks a grid point reads -/

/-- Where each window's block lies at grid point `t`: the rows move with the point, everything else stays. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ) (ρ : Dev nD → PrngReg)

/-- The rows of the first argument. -/
abbrev hrow (c : Dev nD) (r : Fin 16640) (k : Fin 1024) : EReal :=
  (m ((c.tc : Thread nD τ).loc main_arg0) : FVec Ideal S16640x1024 .f32) (ix2 r k)
/-- The gain. -/
abbrev gain (c : Dev nD) (k : Fin 1024) : EReal := (m ((c.tc : Thread nD τ).loc main_arg1) : FVec Ideal S1024 .f32) (ix1 k)
/-- The weights. -/
abbrev wgt (c : Dev nD) (k : Fin 1024) (n : Fin 7944) : EReal :=
  (m ((c.tc : Thread nD τ).loc main_arg2) : FVec Ideal S1024x7944 .f32) (ix2 k n)
/-- The bias. -/
abbrev bias (c : Dev nD) (n : Fin 8) : EReal := (m ((c.tc : Thread nD τ).loc main_arg3) : FVec Ideal S8 .f32) (ix1 n)

/-- The rows of every grid point's block are rows of the array. -/
theorem lt_rows (t : Fin cfg0.N) (r : Fin 256) : 256 * t.val + r.val < 16640 := by
  have h : t.val < 65 := lt_of_lt_of_eq t.isLt (by decide +kernel)
  omega

/-- The first window's block at grid point `t`: rows `256 t …` of the first argument. -/
theorem blk0 (c : Dev nD) (t : Fin cfg0.N) (r : Fin 256) (k : Fin 1024) :
    iblk m c 0 t (ix2 r k) = hrow m c ⟨256 * t.val + r.val, lt_rows t r⟩ k := by
  blk_ext [iblk, V, idx t]

/-- The second window's block is the gain, at every grid point. -/
theorem blk1 (c : Dev nD) (t : Fin cfg0.N) (k : Fin 1024) : iblk m c 1 t (ix2 0 k) = gain m c k := by
  blk_ext! [iblk, V, idx t]

end Cert.Kernel3Ideal.Hand

end
-- ==== Proof.InprojHost.lean ====
/-
  The packed weights and the filled-up bias, which the host code of the input projection prepares, index by index.
-/
module

public import proofs.«01_k».proof.Proof.InprojBlock

@[expose] public section

set_option maxRecDepth 16384

noncomputable section

open Idealize.ShloMosaic Idealize.ShloMosaic.TcCoe Idealize.SL.Sem

namespace Cert.Kernel3Ideal.Hand

open Cert.Kernel3Ideal Cert.Kernel3Ideal.Gen

variable (m : (ℓ : Loc nD τ sig) → Buf (Elt Ideal) ℓ)

set_option maxHeartbeats 1000000 in
/-- Eleven pieces side by side, which are the column groups of `w` and zeros, are the packed weights. -/
theorem cat_apply (w : Fin 1024 → Fin 7944 → EReal) (x0 : FVec Ideal S1024x1536 .f32) (x1 x2 x3 x4 : FVec Ideal S1024x64 .f32)
    (x5 : FVec Ideal S1024x128 .f32) (x6 x7 : FVec Ideal S1024x1536 .f32) (x8 : FVec Ideal S1024x3072 .f32)
    (x9 : FVec Ideal S1024x8 .f32) (x10 : FVec Ideal S1024x120 .f32) (h0 : ∀ k (n : Fin 1536), x0 (ix2 k n) = w k ⟨0 + n, by omega⟩) (h1 : ∀ k (n : Fin 64), x1 (ix2 k n) = w k ⟨1536 + n, by omega⟩) (h2 : ∀ k (n : Fin 64), x2 (ix2 k n) = (0 : EReal)) (h3 : ∀ k (n : Fin 64), x3 (ix2 k n) = w k ⟨1600 + n, by omega⟩) (h4 : ∀ k (n : Fin 64), x4 (ix2 k n) = (0 : EReal)) (h5 : ∀ k (n : Fin 128), x5 (ix2 k n) = w k ⟨1664 + n, by omega⟩) (h6 : ∀ k (n : Fin 1536), x6 (ix2 k n) = w k ⟨1792 + n, by omega⟩) (h7 : ∀ k (n : Fin 1536), x7 (ix2 k n) = w k ⟨3336 + n, by omega⟩) (h8 : ∀ k (n : Fin 3072), x8 (ix2 k n) = w k ⟨4872 + n, by omega⟩) (h9 : ∀ k (n : Fin 8), x9 (ix2 k n) = w k ⟨3328 + n, by omega⟩) (h10 : ∀ k (n : Fin 120), x10 (ix2 k n) = (0 : EReal)) (k : Fin 1024) (n : Fin 8192) :
    concatenate S1024x8192 1 [⟨S1024x1536, x0⟩, ⟨S1024x64, x1⟩, ⟨S1024x64, x2⟩, ⟨S1024x64, x3⟩, ⟨S1024x64, x4⟩,
        ⟨S1024x128, x5⟩, ⟨S1024x1536, x6⟩, ⟨S1024x1536, x7⟩, ⟨S1024x3072, x8⟩, ⟨S1024x8, x9⟩, ⟨S1024x120, x10⟩]
        concatenates_S1024x1536_S1024x64_S1024x64_S1024x64_S1024x64_S1024x128_S1024x1536_S1024x1536_S1024x3072_S1024x8_S1024x120_S1024x8192_d1
        (ix2 k n) = Rows.pack w k n := by
  pointwise
  simp only [h0, h1, h2, h3, h4, h5, h6, h7, h8, h9, h10]
  repeat' (refine Idealize.ShloMosaic.ValueKit.dite_eq_of (fun h => ?_) (fun h => ?_))
  all_goals first
    | exact (Rows.pack_zero w k n (by omega)).symm
    | exact (Rows.pack_of w k n _ (by dsimp only; omega)).symm

/-! The pieces, after the operations that cut them out. -/

/-- Piece 0 of the packed weights holds its columns of the weights. -/
theorem early0 (c : Dev nD) (k : Fin 1024) (n : Fin 1536) :
    (StableHlo.after ((hostOps0 (F := Ideal)).take 14) (fun b => m (c, b)) main_v0 : FVec Ideal S1024x1536 .f32) (ix2 k n) = wgt m c k ⟨0 + n, by omega⟩ := by
  dsimp only [hostOps0, List.take]
  simp only [StableHlo.after_cons, StableHlo.after_nil]
  after_results_simp
  pointwise

/-- Piece 1 of the packed weights holds its columns of the weights. -/
theorem early1 (c : Dev nD) (k : Fin 1024) (n : Fin 64) :
    (StableHlo.after ((hostOps0 (F := Ideal)).take 14) (fun b => m (c, b)) main_v1 : FVec Ideal S1024x64 .f32) (ix2 k n) = wgt m c k ⟨1536 + n, by omega⟩ := by
  dsimp only [hostOps0, List.take]
  simp only [StableHlo.after_cons, StableHlo.after_nil]
  after_results_simp
  pointwise

/-- Piece 2 of the packed weights is zero. -/
theorem early2 (c : Dev nD) (k : Fin 1024) (n : Fin 64) :
    (StableHlo.after ((hostOps0 (F := Ideal)).take 14) (fun b => m (c, b)) main_v8 : FVec Ideal S1024x64 .f32) (ix2 k n) = (0 : EReal) := by
  dsimp only [hostOps0, List.take]
  simp only [StableHlo.after_cons, StableHlo.after_nil]
  after_results_simp
  pointwise

/-- Piece 3 of the packed weights holds its columns of the weights. -/
theorem early3 (c : Dev nD) (k : Fin 1024) (n : Fin 64) :
    (StableHlo.after ((hostOps0 (F := Ideal)).take 14) (fun b => m (c, b)) main_v2 : FVec Ideal S1024x64 .f32) (ix2 k n) = wgt m c k ⟨1600 + n, by omega⟩ := by
  dsimp only [hostOps0, List.take]
  simp only [StableHlo.after_cons, StableHlo.after_nil]
  after_results_simp
  pointwise

/-- Piece 4 of the packed weights is zero. -/
theorem early4 (c : Dev nD) (k : Fin 1024) (n : Fin 64) :
    (StableHlo.after ((hostOps0 (F := Ideal)).take 14) (fun b => m (c, b)) main_v9 : FVec Ideal S1024x64 .f32) (ix2 k n) = (0 : EReal) := by
  dsimp only [hostOps0, List.take]
  simp only [StableHlo.after_cons, StableHlo.after_nil]
  after_results_simp
  pointwise

/-- Piece 5 of the packed weights holds its columns of the weights. -/
theorem early5 (c : Dev nD) (k : Fin 1024) (n : Fin 128) :
    (StableHlo.after ((hostOps0 (F := Ideal)).take 14) (fun b => m (c, b)) main_v3 : FVec Ideal S1024x128 .f32) (ix2 k n) = wgt m c k ⟨1664 + n, by omega⟩ := by
  dsimp only [hostOps0, List.take]
  simp only [StableHlo.after_cons, StableHlo.after_nil]
  after_results_simp
  pointwise

/-- Piece 6 of the packed weights holds its columns of the weights. -/
theorem early6 (c : Dev nD) (k : Fin 1024) (n : Fin 1536) :
    (StableHlo.after ((hostOps0 (F := Ideal)).take 14) (fun b => m (c, b)) main_v4 : FVec Ideal S1024x1536 .f32) (ix2 k n) = wgt m c k ⟨1792 + n, by omega⟩ := by
  dsimp only [hostOps0, List.take]
  simp only [StableHlo.after_cons, StableHlo.after_nil]
  after_results_simp
  pointwise

/-- Piece 7 of the packed weights holds its columns of the weights. -/
theorem early7 (c : Dev nD) (k : Fin 1024) (n : Fin 1536) :
    (StableHlo.after ((hostOps0 (F := Ideal)).take 14) (fun b => m (c, b)) main_v6 : FVec Ideal S1024x1536 .f32) (ix2 k n) = wgt m c k ⟨3336 + n, by omega⟩ := by
  dsimp only [hostOps0, List.take]
  simp only [StableHlo.after_cons, StableHlo.after_nil]
  after_results_simp
  pointwise

/-- Piece 8 of the packed weights holds its columns of the weights. -/
theorem early8 (c : Dev nD) (k : Fin 1024) (n : Fin 3072) :
    (StableHlo.after ((hostOps0 (F := Ideal)).take 14) (fun b => m (c, b)) main_v7 : FVec Ideal S1024x3072 .f32) (ix2 k n) = wgt m c k ⟨4872 + n, by omega⟩ := by
  dsimp only [hostOps0, List.take]
  simp only [StableHlo.after_cons, StableHlo.after_nil]
  after_results_simp
  pointwise

/-- Piece 9 of the packed weights holds its columns of the weights. -/
theorem early9 (c : Dev nD) (k : Fin 1024) (n : Fin 8) :
    (StableHlo.after ((hostOps0 (F := Ideal)).take 14) (fun b => m (c, b)) main_v5 : FVec Ideal S1024x8 .f32) (ix2 k n) = wgt m c k ⟨3328 + n, by omega⟩ := by
  dsimp only [hostOps0, List.take]
  simp only [StableHlo.after_cons, StableHlo.after_nil]
  after_results_simp
  pointwise

/-- Piece 10 of the packed weights is zero. -/
theorem early10 (c : Dev nD) (k : Fin 1024) (n : Fin 120) :
    (StableHlo.after ((hostOps0 (F := Ideal)).take 14) (fun b => m (c, b)) main_v10 : FVec Ideal S1024x120 .f32) (ix2 k n) = (0 : EReal) := by
  dsimp only [hostOps0, List.take]
  simp only [StableHlo.after_cons, StableHlo.after_nil]
  after_results_simp
  pointwise

/-- The packed weights at an index. -/
theorem V2 (c : Dev nD) (k : Fin 1024) (n : Fin 8192) :
    (V m c main_v15 : FVec Ideal S1024x8192 .bf16) (ix2 k n) = Rows.pack (wgt m c) k n := by
  have e : V m c main_v15 = StableHlo.after ((hostOps0 (F := Ideal)).drop 14)
      (StableHlo.after ((hostOps0 (F := Ideal)).take 14) (fun b => m (c, b))) main_v15 := rfl
  rw [e]
  have h0 := early0 m c
  have h1 := early1 m c
  have h2 := early2 m c
  have h3 := early3 m c
  have h4 := early4 m c
  have h5 := early5 m c
  have h6 := early6 m c
  have h7 := early7 m c
  have h8 := early8 m c
  have h9 := early9 m c
  have h10 := early10 m c
  generalize StableHlo.after ((hostOps0 (F := Ideal)).take 14) (fun b => m (c, b)) = σ at *
  dsimp only [hostOps0, List.drop]
  simp only [StableHlo.after_cons, StableHlo.after_nil]
  after_results_simp
  exact cat_apply (wgt m c) _ _ _ _ _ _ _ _ _ _ _ h0 h1 h2 h3 h4 h5 h6 h7 h8 h9 h10 k n

/-- The filled-up bias at an index. -/
theorem V3 (c : Dev nD) (n : Fin 128) :
    (V m c main_v14 : FVec Ideal S1x128 .f32) (ix2 0 n) = Rows.packBias (bias m c) n := by
  entry_read
  pointwise
  rfl

end Cert.Kernel3Ideal.Hand

end
-- ==== Proof.Inproj.lean ====
/-
  The input projection's results after the run, and the plain reference's, as the same functions of the arguments.
-/
module

public import proofs.«01_k».proof.Proof.InprojHost

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

variable (m : (ℓ : Loc nD τ sig) → Buf (Elt Ideal) ℓ)

/-- The third window's block is the packed weights, at every grid point. -/
theorem blk2 (c : Dev nD) (t : Fin cfg0.N) (k : Fin 1024) (n : Fin 8192) :
    iblk m c 2 t (ix2 k n) = Rows.pack (wgt m c) k n := by
  refine Eq.trans ?_ (V2 m c k n)
  blk_ext! [iblk, idx t]

/-- The fourth window's block is the filled-up bias, at every grid point. -/
theorem blk3 (c : Dev nD) (t : Fin cfg0.N) (n : Fin 128) : iblk m c 3 t (ix2 0 n) = Rows.packBias (bias m c) n := by
  refine Eq.trans ?_ (V3 m c n)
  blk_ext! [iblk, idx t]

/-- The normalised row `r` at column `l`. -/
def normed (c : Dev nD) (r : Fin 16640) (l : Fin 1024) : EReal := Rows.rms (hrow m c r) (gain m c) l

/-- Column `n` of the projection of row `r`. -/
def proj (c : Dev nD) (r : Fin 16640) (n : Fin 8192) : EReal :=
  Rows.dot (normed m c r) (fun k => Rows.pack (wgt m c) k n)

/-- The first result: the normalised rows. -/
def G4 (c : Dev nD) : Buf (Elt Ideal) ((c.tc : Thread nD τ).loc main_v17_0) := fun i : S16640x1024.Idx => normed m c (i 0) (i 1)

/-- The array of the normalised rows after the run. -/
theorem final4 (c : Dev nD) : (dats m 0 c).arrAt 4 cfg0.N = G4 m c := by
  refine (dats m 0 c).arrAt_eq_of_covers 4 _ (by decide +kernel) fun t hf y => ?_
  blk_simp
  rw [after0_4]
  idx_vars y
  refine Eq.trans (b := G4 m c (ix2 ⟨256 * t.val + y0.val, lt_rows t y0⟩ y1)) ?_ ?_
  · rw [out4_apply]
    simp only [blk0, blk1]
    rfl
  · generalize G4 m c = f
    blk_ext! [idx t]

/-- Result 1, by row and column. -/
def G5 (c : Dev nD) : Buf (Elt Ideal) ((c.tc : Thread nD τ).loc main_v17_1) := fun i : S16640x1920.Idx =>
  proj m c (i 0) ⟨0 + (i 1).val, Nat.lt_of_lt_of_le (Nat.add_lt_add_left (i 1).isLt 0) (by decide)⟩

/-- Result 1 after the run. -/
theorem final5 (c : Dev nD) : (dats m 0 c).arrAt 5 cfg0.N = G5 m c := by
  refine (dats m 0 c).arrAt_eq_of_covers 5 _ (by decide +kernel) fun t hf y => ?_
  blk_simp
  rw [after0_5]
  idx_vars y
  refine Eq.trans (b := G5 m c (ix2 ⟨256 * t.val + y0.val, lt_rows t y0⟩ y1)) ?_ ?_
  · rw [out5_apply]
    simp only [blk0, blk1, blk2]
    rfl
  · generalize G5 m c = f
    blk_ext! [idx t]

/-- Result 2, by row and column. -/
def G6 (c : Dev nD) : Buf (Elt Ideal) ((c.tc : Thread nD τ).loc main_v17_2) := fun i : S16640x512.Idx =>
  proj m c (i 0) ⟨1920 + (i 1).val, Nat.lt_of_lt_of_le (Nat.add_lt_add_left (i 1).isLt 1920) (by decide)⟩

/-- Result 2 after the run. -/
theorem final6 (c : Dev nD) : (dats m 0 c).arrAt 6 cfg0.N = G6 m c := by
  refine (dats m 0 c).arrAt_eq_of_covers 6 _ (by decide +kernel) fun t hf y => ?_
  blk_simp
  rw [after0_6]
  idx_vars y
  refine Eq.trans (b := G6 m c (ix2 ⟨256 * t.val + y0.val, lt_rows t y0⟩ y1)) ?_ ?_
  · rw [out6_apply]
    simp only [blk0, blk1, blk2]
    rfl
  · generalize G6 m c = f
    blk_ext! [idx t]

/-- Result 3, by row and column. -/
def G7 (c : Dev nD) : Buf (Elt Ideal) ((c.tc : Thread nD τ).loc main_v17_3) := fun i : S16640x512.Idx =>
  proj m c (i 0) ⟨2432 + (i 1).val, Nat.lt_of_lt_of_le (Nat.add_lt_add_left (i 1).isLt 2432) (by decide)⟩

/-- Result 3 after the run. -/
theorem final7 (c : Dev nD) : (dats m 0 c).arrAt 7 cfg0.N = G7 m c := by
  refine (dats m 0 c).arrAt_eq_of_covers 7 _ (by decide +kernel) fun t hf y => ?_
  blk_simp
  rw [after0_7]
  idx_vars y
  refine Eq.trans (b := G7 m c (ix2 ⟨256 * t.val + y0.val, lt_rows t y0⟩ y1)) ?_ ?_
  · rw [out7_apply]
    simp only [blk0, blk1, blk2]
    rfl
  · generalize G7 m c = f
    blk_ext! [idx t]

/-- Result 4, by row and column. -/
def G8 (c : Dev nD) : Buf (Elt Ideal) ((c.tc : Thread nD τ).loc main_v17_4) := fun i : S16640x512.Idx =>
  proj m c (i 0) ⟨2944 + (i 1).val, Nat.lt_of_lt_of_le (Nat.add_lt_add_left (i 1).isLt 2944) (by decide)⟩

/-- Result 4 after the run. -/
theorem final8 (c : Dev nD) : (dats m 0 c).arrAt 8 cfg0.N = G8 m c := by
  refine (dats m 0 c).arrAt_eq_of_covers 8 _ (by decide +kernel) fun t hf y => ?_
  blk_simp
  rw [after0_8]
  idx_vars y
  refine Eq.trans (b := G8 m c (ix2 ⟨256 * t.val + y0.val, lt_rows t y0⟩ y1)) ?_ ?_
  · rw [out8_apply]
    simp only [blk0, blk1, blk2]
    rfl
  · generalize G8 m c = f
    blk_ext! [idx t]

/-- Result 5, by row and column. -/
def G9 (c : Dev nD) : Buf (Elt Ideal) ((c.tc : Thread nD τ).loc main_v17_5) := fun i : S16640x512.Idx =>
  proj m c (i 0) ⟨2432 + (i 1).val, Nat.lt_of_lt_of_le (Nat.add_lt_add_left (i 1).isLt 2432) (by decide)⟩

/-- Result 5 after the run. -/
theorem final9 (c : Dev nD) : (dats m 0 c).arrAt 9 cfg0.N = G9 m c := by
  refine (dats m 0 c).arrAt_eq_of_covers 9 _ (by decide +kernel) fun t hf y => ?_
  blk_simp
  rw [after0_9]
  idx_vars y
  refine Eq.trans (b := G9 m c (ix2 ⟨256 * t.val + y0.val, lt_rows t y0⟩ y1)) ?_ ?_
  · rw [out9_apply]
    simp only [blk0, blk1, blk2]
    rfl
  · generalize G9 m c = f
    blk_ext! [idx t]

/-- Result 6, by row and column. -/
def G10 (c : Dev nD) : Buf (Elt Ideal) ((c.tc : Thread nD τ).loc main_v17_6) := fun i : S16640x512.Idx =>
  proj m c (i 0) ⟨2944 + (i 1).val, Nat.lt_of_lt_of_le (Nat.add_lt_add_left (i 1).isLt 2944) (by decide)⟩

/-- Result 6 after the run. -/
theorem final10 (c : Dev nD) : (dats m 0 c).arrAt 10 cfg0.N = G10 m c := by
  refine (dats m 0 c).arrAt_eq_of_covers 10 _ (by decide +kernel) fun t hf y => ?_
  blk_simp
  rw [after0_10]
  idx_vars y
  refine Eq.trans (b := G10 m c (ix2 ⟨256 * t.val + y0.val, lt_rows t y0⟩ y1)) ?_ ?_
  · rw [out10_apply]
    simp only [blk0, blk1, blk2]
    rfl
  · generalize G10 m c = f
    blk_ext! [idx t]

/-- Result 7, by row and column. -/
def G11 (c : Dev nD) : Buf (Elt Ideal) ((c.tc : Thread nD τ).loc main_v17_7) := fun i : S16640x128.Idx =>
  Rows.logSig (proj m c (i 0) ⟨8064 + (i 1).val, Nat.lt_of_lt_of_le (Nat.add_lt_add_left (i 1).isLt 8064) (by decide)⟩ + Rows.packBias (bias m c) (i 1))

/-- Result 7 after the run. -/
theorem final11 (c : Dev nD) : (dats m 0 c).arrAt 11 cfg0.N = G11 m c := by
  refine (dats m 0 c).arrAt_eq_of_covers 11 _ (by decide +kernel) fun t hf y => ?_
  blk_simp
  rw [after0_11]
  idx_vars y
  refine Eq.trans (b := G11 m c (ix2 ⟨256 * t.val + y0.val, lt_rows t y0⟩ y1)) ?_ ?_
  · rw [out11_apply]
    simp only [blk0, blk1, blk2, blk3]
    rfl
  · generalize G11 m c = f
    blk_ext! [idx t]

/-- Result 8, by row and column. -/
def G12 (c : Dev nD) : Buf (Elt Ideal) ((c.tc : Thread nD τ).loc main_v17_8) := fun i : S16640x512.Idx =>
  proj m c (i 0) ⟨3456 + (i 1).val, Nat.lt_of_lt_of_le (Nat.add_lt_add_left (i 1).isLt 3456) (by decide)⟩

/-- Result 8 after the run. -/
theorem final12 (c : Dev nD) : (dats m 0 c).arrAt 12 cfg0.N = G12 m c := by
  refine (dats m 0 c).arrAt_eq_of_covers 12 _ (by decide +kernel) fun t hf y => ?_
  blk_simp
  rw [after0_12]
  idx_vars y
  refine Eq.trans (b := G12 m c (ix2 ⟨256 * t.val + y0.val, lt_rows t y0⟩ y1)) ?_ ?_
  · rw [out12_apply]
    simp only [blk0, blk1, blk2]
    rfl
  · generalize G12 m c = f
    blk_ext! [idx t]

/-- Result 9, by row and column. -/
def G13 (c : Dev nD) : Buf (Elt Ideal) ((c.tc : Thread nD τ).loc main_v17_9) := fun i : S16640x512.Idx =>
  proj m c (i 0) ⟨3968 + (i 1).val, Nat.lt_of_lt_of_le (Nat.add_lt_add_left (i 1).isLt 3968) (by decide)⟩

/-- Result 9 after the run. -/
theorem final13 (c : Dev nD) : (dats m 0 c).arrAt 13 cfg0.N = G13 m c := by
  refine (dats m 0 c).arrAt_eq_of_covers 13 _ (by decide +kernel) fun t hf y => ?_
  blk_simp
  rw [after0_13]
  idx_vars y
  refine Eq.trans (b := G13 m c (ix2 ⟨256 * t.val + y0.val, lt_rows t y0⟩ y1)) ?_ ?_
  · rw [out13_apply]
    simp only [blk0, blk1, blk2]
    rfl
  · generalize G13 m c = f
    blk_ext! [idx t]

/-- Result 10, by row and column. -/
def G14 (c : Dev nD) : Buf (Elt Ideal) ((c.tc : Thread nD τ).loc main_v17_10) := fun i : S16640x512.Idx =>
  proj m c (i 0) ⟨4480 + (i 1).val, Nat.lt_of_lt_of_le (Nat.add_lt_add_left (i 1).isLt 4480) (by decide)⟩

/-- Result 10 after the run. -/
theorem final14 (c : Dev nD) : (dats m 0 c).arrAt 14 cfg0.N = G14 m c := by
  refine (dats m 0 c).arrAt_eq_of_covers 14 _ (by decide +kernel) fun t hf y => ?_
  blk_simp
  rw [after0_14]
  idx_vars y
  refine Eq.trans (b := G14 m c (ix2 ⟨256 * t.val + y0.val, lt_rows t y0⟩ y1)) ?_ ?_
  · rw [out14_apply]
    simp only [blk0, blk1, blk2]
    rfl
  · generalize G14 m c = f
    blk_ext! [idx t]

/-- Result 11, by row and column. -/
def G15 (c : Dev nD) : Buf (Elt Ideal) ((c.tc : Thread nD τ).loc main_v17_11) := fun i : S16640x512.Idx =>
  proj m c (i 0) ⟨3968 + (i 1).val, Nat.lt_of_lt_of_le (Nat.add_lt_add_left (i 1).isLt 3968) (by decide)⟩

/-- Result 11 after the run. -/
theorem final15 (c : Dev nD) : (dats m 0 c).arrAt 15 cfg0.N = G15 m c := by
  refine (dats m 0 c).arrAt_eq_of_covers 15 _ (by decide +kernel) fun t hf y => ?_
  blk_simp
  rw [after0_15]
  idx_vars y
  refine Eq.trans (b := G15 m c (ix2 ⟨256 * t.val + y0.val, lt_rows t y0⟩ y1)) ?_ ?_
  · rw [out15_apply]
    simp only [blk0, blk1, blk2]
    rfl
  · generalize G15 m c = f
    blk_ext! [idx t]

/-- Result 12, by row and column. -/
def G16 (c : Dev nD) : Buf (Elt Ideal) ((c.tc : Thread nD τ).loc main_v17_12) := fun i : S16640x512.Idx =>
  proj m c (i 0) ⟨4480 + (i 1).val, Nat.lt_of_lt_of_le (Nat.add_lt_add_left (i 1).isLt 4480) (by decide)⟩

/-- Result 12 after the run. -/
theorem final16 (c : Dev nD) : (dats m 0 c).arrAt 16 cfg0.N = G16 m c := by
  refine (dats m 0 c).arrAt_eq_of_covers 16 _ (by decide +kernel) fun t hf y => ?_
  blk_simp
  rw [after0_16]
  idx_vars y
  refine Eq.trans (b := G16 m c (ix2 ⟨256 * t.val + y0.val, lt_rows t y0⟩ y1)) ?_ ?_
  · rw [out16_apply]
    simp only [blk0, blk1, blk2]
    rfl
  · generalize G16 m c = f
    blk_ext! [idx t]

/-- Result 13, by row and column. -/
def G17 (c : Dev nD) : Buf (Elt Ideal) ((c.tc : Thread nD τ).loc main_v17_13) := fun i : S16640x3072.Idx =>
  Rows.sig (proj m c (i 0) ⟨4992 + (i 1).val, Nat.lt_of_lt_of_le (Nat.add_lt_add_left (i 1).isLt 4992) (by decide)⟩)

/-- Result 13 after the run. -/
theorem final17 (c : Dev nD) : (dats m 0 c).arrAt 17 cfg0.N = G17 m c := by
  refine (dats m 0 c).arrAt_eq_of_covers 17 _ (by decide +kernel) fun t hf y => ?_
  blk_simp
  rw [after0_17]
  idx_vars y
  refine Eq.trans (b := G17 m c (ix2 ⟨256 * t.val + y0.val, lt_rows t y0⟩ y1)) ?_ ?_
  · rw [out17_apply]
    simp only [blk0, blk1, blk2]
    rfl
  · generalize G17 m c = f
    blk_ext! [idx t]

end Cert.Kernel3Ideal.Hand

end
-- ==== Proof.InprojRef.lean ====
/-
  The plain reference of the input projection: its results by row and column.
-/
module

public import proofs.«01_k».proof.Defs
public import proofs.«01_k».proof.Proof.Gen.Reference3Ideal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.Reference3Ideal.Hand

open Cert.Reference3Ideal Cert.Reference3Ideal.Gen

variable (m : (ℓ : Loc nD τ sig) → Buf (Elt Ideal) ℓ)

/-- The rows of the first argument. -/
abbrev hrow (c : Dev nD) (r : Fin 16640) (k : Fin 1024) : EReal :=
  (m ((c.tc : Thread nD τ).loc main_arg0) : FVec Ideal S16640x1024 .f32) (ix2 r k)
/-- The gain. -/
abbrev gain (c : Dev nD) (k : Fin 1024) : EReal := (m ((c.tc : Thread nD τ).loc main_arg1) : FVec Ideal S1024 .f32) (ix1 k)
/-- The weights. -/
abbrev wgt (c : Dev nD) (k : Fin 1024) (n : Fin 7944) : EReal :=
  (m ((c.tc : Thread nD τ).loc main_arg2) : FVec Ideal S1024x7944 .f32) (ix2 k n)
/-- The bias. -/
abbrev bias (c : Dev nD) (n : Fin 8) : EReal := (m ((c.tc : Thread nD τ).loc main_arg3) : FVec Ideal S8 .f32) (ix1 n)

/-- The normalised rows, as the reference writes them. -/
def nrm (c : Dev nD) : FVec Ideal S16640x1024 .f32 :=
  mulf (mulf (m ((c.tc : Thread nD τ).loc main_arg0)) (broadcastInDim S16640x1024 ![0, 1] bcast_S16640x1_S16640x1024_0_1 (Host.rsqrt (addf (Host.divf (broadcastInDim S16640x1 ![0] bcast_S16640_S16640x1_0 (Host.reduceAdd (mulf (m ((c.tc : Thread nD τ).loc main_arg0)) (m ((c.tc : Thread nD τ).loc main_arg0))) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 (m ((c.tc : Thread nD τ).loc main_arg1))))

/-- The product of the normalised rows and the weights, as the reference writes it. -/
def prod (c : Dev nD) : FVec Ideal S16640x7944 .f32 :=
  Host.dotGeneral (φ₁ := .f32) (φ₂ := .f32) dot_S16640x1024_S1024x7944_S16640x7944_1_0_0_1_n_n none (nrm m c)
    (m ((c.tc : Thread nD τ).loc main_arg2))

/-- The normalised rows at an index. -/
theorem nrm_apply (c : Dev nD) (r : Fin 16640) (k : Fin 1024) : nrm m c (ix2 r k) = Rows.rms (hrow m c r) (gain m c) k := by
  unfold nrm
  pointwise
  simp only [Rows.rms]

/-- The product at an index. -/
theorem prod_apply (c : Dev nD) (r : Fin 16640) (n : Fin 7944) :
    prod m c (ix2 r n) = Rows.dot (Rows.rms (hrow m c r) (gain m c)) (fun k => wgt m c k n) := by
  unfold prod
  pointwise
  simp only [nrm_apply, Rows.dot]

/-- The packed projection at a column that holds one of the product's. -/
theorem packed_of (c : Dev nD) (r : Fin 16640) (n : Fin 8192) (j : Fin 7944)
    (h : (n.val < 1600 ∧ j.val = n.val) ∨ (1664 ≤ n.val ∧ n.val < 1728 ∧ j.val + 64 = n.val)
      ∨ (1792 ≤ n.val ∧ n.val < 3456 ∧ j.val + 128 = n.val) ∨ (3456 ≤ n.val ∧ n.val < 8064 ∧ j.val + 120 = n.val)
      ∨ (8064 ≤ n.val ∧ n.val < 8072 ∧ j.val + 4736 = n.val)) :
    prod m c (ix2 r j) = Rows.dot (Rows.rms (hrow m c r) (gain m c)) (fun k => Rows.pack (wgt m c) k n) := by
  rw [prod_apply]
  exact congrArg _ (funext fun k => (Rows.pack_of (wgt m c) k n j h).symm)

/-- The packed projection at a filling column is zero. -/
theorem packed_zero (c : Dev nD) (r : Fin 16640) (n : Fin 8192)
    (h : (1600 ≤ n.val ∧ n.val < 1664) ∨ (1728 ≤ n.val ∧ n.val < 1792) ∨ 8072 ≤ n.val) :
    Rows.dot (Rows.rms (hrow m c r) (gain m c)) (fun k => Rows.pack (wgt m c) k n) = 0 := by
  simp only [Rows.dot, Rows.pack_zero (wgt m c) _ n h, mul_zero, Finset.sum_const_zero]

/-- A group of 512 columns of the product. -/
theorem cols_apply (c : Dev nD) (off : Nat) (hs : S16640x7944.Slices ![0, off] S16640x512) (r : Fin 16640) (l : Fin 512)
    (h : off + l.val < 7944) : extractStridedSlice S16640x512 ![0, off] (prod m c) hs (ix2 r l) = prod m c (ix2 r ⟨off + l, h⟩) := by
  generalize prod m c = x
  pointwise

/-- The gates. -/
theorem gates_apply (c : Dev nD) (r : Fin 16640) (l : Fin 3072) :
    Host.divf (broadcastInDim S16640x3072 ![] bcast_S_S16640x3072 (constant S_ .f32 0x3F800000#32)) (addf (broadcastInDim S16640x3072 ![] bcast_S_S16640x3072 (constant S_ .f32 0x3F800000#32)) (Host.exp (Host.negf (extractStridedSlice S16640x3072 ![0, 4872] (prod m c) slices_S16640x7944_S16640x3072_0_4872)))) (ix2 r l)
      = Rows.sig (Rows.dot (Rows.rms (hrow m c r) (gain m c)) (fun k => Rows.pack (wgt m c) k ⟨4992 + l, by omega⟩)) := by
  rw [← packed_of m c r ⟨4992 + l, by omega⟩ ⟨4872 + l, by omega⟩ (by dsimp only; omega)]
  generalize prod m c = x
  pointwise
  simp only [Rows.sig]

/-- The columns of the recurrent mixer cut out of an array `x`, each group filled up with zeros to whole lanes. -/
def groups (x : FVec Ideal S16640x7944 .f32) : FVec Ideal S16640x1920 .f32 :=
  concatenate S16640x1920 1 [⟨S16640x1536, ((extractStridedSlice S16640x1536 ![0, 0] (extractStridedSlice S16640x1792 ![0, 0] x slices_S16640x7944_S16640x1792_0_0) slices_S16640x1792_S16640x1536_0_0) : FVec Ideal S16640x1536 .f32)⟩,
    ⟨S16640x128, ((pad S16640x128 ![0, 0] ![0, 64] ![0, 0] (extractStridedSlice S16640x64 ![0, 1536] (extractStridedSlice S16640x1792 ![0, 0] x slices_S16640x7944_S16640x1792_0_0) slices_S16640x1792_S16640x64_0_1536) (sitofp (F := Ideal) .f32 (constantI S_ 32 0#32)) pads_S16640x64_S16640x128_000_0640 h_S_) : FVec Ideal S16640x128 .f32)⟩,
    ⟨S16640x128, ((pad S16640x128 ![0, 0] ![0, 64] ![0, 0] (extractStridedSlice S16640x64 ![0, 1600] (extractStridedSlice S16640x1792 ![0, 0] x slices_S16640x7944_S16640x1792_0_0) slices_S16640x1792_S16640x64_0_1600) (sitofp (F := Ideal) .f32 (constantI S_ 32 0#32)) pads_S16640x64_S16640x128_000_0640 h_S_) : FVec Ideal S16640x128 .f32)⟩,
    ⟨S16640x128, ((extractStridedSlice S16640x128 ![0, 1664] (extractStridedSlice S16640x1792 ![0, 0] x slices_S16640x7944_S16640x1792_0_0) slices_S16640x1792_S16640x128_0_1664) : FVec Ideal S16640x128 .f32)⟩]
    concatenates_S16640x1536_S16640x128_S16640x128_S16640x128_S16640x1920_d1

/-- The integer zero, as a float. -/
theorem zero_of : (FloatOps.sitofp .f32 (0#32 : BitVec 32) : Ideal .f32) = (0 : EReal) := by
  show (((0#32 : BitVec 32).toInt : ℝ) : EReal) = 0
  norm_num

/-- The columns of the recurrent mixer, with the zero columns that fill its groups up to whole lanes. -/
theorem rw_apply (c : Dev nD) (r : Fin 16640) (l : Fin 1920) :
    Value.res_out1 (F := Ideal) m c (ix2 r l)
      = Rows.dot (Rows.rms (hrow m c r) (gain m c)) (fun k => Rows.pack (wgt m c) k ⟨0 + l, by omega⟩) := by
  have h0 := packed_of m c r ⟨0 + l, by omega⟩
  have h1 := packed_zero m c r ⟨0 + l, by omega⟩
  change groups (prod m c) (ix2 r l) = _
  generalize prod m c = x at *
  generalize Rows.dot (Rows.rms (hrow m c r) (gain m c)) (fun k => Rows.pack (wgt m c) k ⟨0 + l, by omega⟩) = d at *
  unfold groups
  pointwise
  repeat' (refine Idealize.ShloMosaic.ValueKit.dite_eq_of (fun h => ?_) (fun h => ?_))
  all_goals first
    | (refine zero_of.trans (h1 ?_).symm; dsimp only; omega)
    | (refine h0 _ ?_; dsimp only; omega)

/-- The forget gates' pre-activations, filled up with zeros to 128 columns. -/
def pre (x : FVec Ideal S16640x7944 .f32) (b : FVec Ideal S8 .f32) : FVec Ideal S16640x128 .f32 :=
  pad S16640x128 ![0, 0] ![0, 120] ![0, 0] (addf (extractStridedSlice S16640x8 ![0, 3328] x slices_S16640x7944_S16640x8_0_3328) (broadcastInDim S16640x8 ![0, 1] bcast_S1x8_S16640x8_0_1 (broadcastInDim S1x8 ![1] bcast_S8_S1x8_1 b))) (sitofp (F := Ideal) .f32 (constantI S_ 32 0#32)) pads_S16640x8_S16640x128_000_01200 h_S_

/-- The logarithm of the logistic function of an array, as the reference writes it. -/
def lsig (z : FVec Ideal S16640x128 .f32) : FVec Ideal S16640x128 .f32 :=
  Host.negf (select (cmpf .une (subf (Host.negf z) (broadcastInDim S16640x128 ![] bcast_S_S16640x128 (constant S_ .f32 0x00000000#32))) (subf (Host.negf z) (broadcastInDim S16640x128 ![] bcast_S_S16640x128 (constant S_ .f32 0x00000000#32)))) (addf (Host.negf z) (broadcastInDim S16640x128 ![] bcast_S_S16640x128 (constant S_ .f32 0x00000000#32))) (addf (maximumf (Host.negf z) (broadcastInDim S16640x128 ![] bcast_S_S16640x128 (constant S_ .f32 0x00000000#32))) (Host.log1p (Host.exp (Host.negf (Host.absf (subf (Host.negf z) (broadcastInDim S16640x128 ![] bcast_S_S16640x128 (constant S_ .f32 0x00000000#32)))))))))

/-- The reference's logarithm of the logistic function, at an index. -/
theorem lsig_apply (z : FVec Ideal S16640x128 .f32) (r : Fin 16640) (l : Fin 128) :
    lsig z (ix2 r l) = Rows.logSig (z (ix2 r l)) := by
  unfold lsig
  pointwise
  simp only [Rows.logSig, sub_zero]
  rw [if_neg (fun h => h rfl)]
  rfl

/-- The forget gates' logarithms. -/
theorem logf_apply (c : Dev nD) (r : Fin 16640) (l : Fin 128) :
    Value.res_out7 (F := Ideal) m c (ix2 r l)
      = Rows.logSig (Rows.dot (Rows.rms (hrow m c r) (gain m c)) (fun k => Rows.pack (wgt m c) k ⟨8064 + l, by omega⟩)
          + Rows.packBias (bias m c) l) := by
  change lsig (pre (prod m c) (m ((c.tc : Thread nD τ).loc main_arg3))) (ix2 r l) = _
  rw [lsig_apply]
  refine congrArg Rows.logSig ?_
  have h0 := packed_of m c r ⟨8064 + l, by omega⟩
  have h1 := packed_zero m c r ⟨8064 + l, by omega⟩
  generalize prod m c = x at *
  unfold pre Rows.packBias
  by_cases h : l.val < 8
  · rw [dif_pos h, ← h0 ⟨3328 + l, by omega⟩ (by dsimp only; omega)]
    pointwise
    rw [dif_pos h]
  · rw [dif_neg h, h1 (by dsimp only; omega)]
    rw [zero_add]
    pointwise
    rw [dif_neg h]
    exact zero_of

end Cert.Reference3Ideal.Hand

end
-- ==== Proof.InprojClaim.lean ====
/-
  The input projection and the plain reference compute the same fourteen results.
-/
module

public import proofs.«01_k».proof.Proof.Inproj
public import proofs.«01_k».proof.Proof.InprojRef

@[expose] public section

set_option maxRecDepth 16384

noncomputable section

open Idealize.ShloMosaic Idealize.ShloMosaic.TcCoe Idealize.SL.Sem

namespace Cert.Proof.Inproj

open Cert.Kernel3Ideal.Hand (G4 G5 G6 G7 G8 G9 G10 G11 G12 G13 G14 G15 G16 G17 final4 final5 final6 final7 final8 final9 final10
  final11 final12 final13 final14 final15 final16 final17)

/-- Two arrays of two axes are equal when they are so at every row and column. -/
theorem two {a b : Nat} {α : Type} (f g : (⟨2, ![a, b]⟩ : Shape).Idx → α) (h : ∀ r l, f (ix2 r l) = g (ix2 r l)) : f = g := by
  funext i
  have e : i = ix2 (i 0) (i 1) := funext fun x => by fin_cases x <;> rfl
  rw [e]
  exact h _ _

/-- The input projection and the plain reference end with equal results from memories that agree on the arguments. -/
theorem algebraic : Cert.algebraic_Kernel3Ideal_Reference3Ideal := by
  intro m g m' g' _ h
  refine ⟨fun c => G4 m c, fun c => G5 m c, fun c => G6 m c, fun c => G7 m c, fun c => G8 m c, fun c => G9 m c, fun c => G10 m c,
    fun c => G11 m c, fun c => G12 m c, fun c => G13 m c, fun c => G14 m c, fun c => G15 m c, fun c => G16 m c, fun c => G17 m c,
    ?_, ?_⟩
  · refine (θ_run Cert.Kernel3Ideal.defs _ _).mono (fun _ hr c => ?_) (Cert.Kernel3Ideal.Value.run_blocks (F := Ideal) m g)
    obtain ⟨r4, r5, r6, r7, r8, r9, r10, r11, r12, r13, r14, r15, r16, r17, k⟩ := hr c
    exact ⟨r4.trans (final4 m c), r5.trans (final5 m c), r6.trans (final6 m c), r7.trans (final7 m c), r8.trans (final8 m c),
      r9.trans (final9 m c), r10.trans (final10 m c), r11.trans (final11 m c), r12.trans (final12 m c), r13.trans (final13 m c),
      r14.trans (final14 m c), r15.trans (final15 m c), r16.trans (final16 m c), r17.trans (final17 m c), k⟩
  · refine (θ_run Cert.Reference3Ideal.defs _ _).mono (fun _ hr c => ?_) (Cert.Reference3Ideal.Value.run (F := Ideal) m' g')
    obtain ⟨r4, r5, r6, r7, r8, r9, r10, r11, r12, r13, r14, r15, r16, r17, k⟩ := hr c
    obtain ⟨h0, h1, h2, h3⟩ := h c
    have eh : Cert.Reference3Ideal.Hand.hrow m' c = Cert.Kernel3Ideal.Hand.hrow m c := by
      funext r k; exact congrFun h0 _
    have eg : Cert.Reference3Ideal.Hand.gain m' c = Cert.Kernel3Ideal.Hand.gain m c := by
      funext k; exact congrFun h1 _
    have ew : Cert.Reference3Ideal.Hand.wgt m' c = Cert.Kernel3Ideal.Hand.wgt m c := by
      funext k n; exact congrFun h2 _
    have eb : Cert.Reference3Ideal.Hand.bias m' c = Cert.Kernel3Ideal.Hand.bias m c := by
      funext n; exact congrFun h3 _
    have cols : ∀ (off off' : Nat) (hs : Cert.Reference3Ideal.S16640x7944.Slices ![0, off] Cert.Reference3Ideal.S16640x512)
        (r : Fin 16640) (l : Fin 512) (hl : off + l.val < 7944) (hl' : off' + l.val < 8192),
        ((1792 ≤ off' + l.val ∧ off' + l.val < 3456 ∧ off + 128 = off') ∨ (3456 ≤ off' + l.val ∧ off' + l.val < 8064 ∧ off + 120 = off')) →
        extractStridedSlice Cert.Reference3Ideal.S16640x512 ![0, off] (Cert.Reference3Ideal.Hand.prod m' c) hs (ix2 r l)
          = Cert.Kernel3Ideal.Hand.proj m c r ⟨off' + l.val, hl'⟩ := by
      intro off off' hs r l hl hl' hc
      rw [Cert.Reference3Ideal.Hand.cols_apply m' c off hs r l hl,
        Cert.Reference3Ideal.Hand.packed_of m' c r ⟨off' + l.val, hl'⟩ ⟨off + l.val, hl⟩ (by dsimp only; omega), eh, eg, ew]
      rfl
    refine ⟨r4.trans ?_, r5.trans ?_, r6.trans ?_, r7.trans ?_, r8.trans ?_, r9.trans ?_, r10.trans ?_, r11.trans ?_,
      r12.trans ?_, r13.trans ?_, r14.trans ?_, r15.trans ?_, r16.trans ?_, r17.trans ?_, k⟩ <;> refine two _ _ fun i0 i1 => ?_
    · refine (Cert.Reference3Ideal.Hand.nrm_apply m' c i0 i1).trans ?_
      rw [eh, eg]; rfl
    · refine (Cert.Reference3Ideal.Hand.rw_apply m' c i0 i1).trans ?_
      rw [eh, eg, ew]; rfl
    · exact cols 1792 1920 Cert.Reference3Ideal.Gen.slices_S16640x7944_S16640x512_0_1792 i0 i1 (by omega) (by omega) (by omega)
    · exact cols 2304 2432 Cert.Reference3Ideal.Gen.slices_S16640x7944_S16640x512_0_2304 i0 i1 (by omega) (by omega) (by omega)
    · exact cols 2816 2944 Cert.Reference3Ideal.Gen.slices_S16640x7944_S16640x512_0_2816 i0 i1 (by omega) (by omega) (by omega)
    · exact cols 2304 2432 Cert.Reference3Ideal.Gen.slices_S16640x7944_S16640x512_0_2304 i0 i1 (by omega) (by omega) (by omega)
    · exact cols 2816 2944 Cert.Reference3Ideal.Gen.slices_S16640x7944_S16640x512_0_2816 i0 i1 (by omega) (by omega) (by omega)
    · refine (Cert.Reference3Ideal.Hand.logf_apply m' c i0 i1).trans ?_
      rw [eh, eg, ew, eb]; rfl
    · exact cols 3336 3456 Cert.Reference3Ideal.Gen.slices_S16640x7944_S16640x512_0_3336 i0 i1 (by omega) (by omega) (by omega)
    · exact cols 3848 3968 Cert.Reference3Ideal.Gen.slices_S16640x7944_S16640x512_0_3848 i0 i1 (by omega) (by omega) (by omega)
    · exact cols 4360 4480 Cert.Reference3Ideal.Gen.slices_S16640x7944_S16640x512_0_4360 i0 i1 (by omega) (by omega) (by omega)
    · exact cols 3848 3968 Cert.Reference3Ideal.Gen.slices_S16640x7944_S16640x512_0_3848 i0 i1 (by omega) (by omega) (by omega)
    · exact cols 4360 4480 Cert.Reference3Ideal.Gen.slices_S16640x7944_S16640x512_0_4360 i0 i1 (by omega) (by omega) (by omega)
    · refine (Cert.Reference3Ideal.Hand.gates_apply m' c i0 i1).trans ?_
      rw [eh, eg, ew]; rfl

end Cert.Proof.Inproj

end
-- ==== Proof.Merge.lean ====
/-
  The value of the merge call: every row of its result is `Rows.merge` of the arguments' row, and so is every row of the
  plain reference.
-/
module

public import proofs.«01_k».proof.Defs
public import proofs.«01_k».proof.Proof.Gen.Kernel4Ideal.Value
public import proofs.«01_k».proof.Proof.Gen.Reference4Ideal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

/-- The block a grid point computes, at row `r` and column `l`: the merged row of the blocks' row `r`. -/
theorem block_apply (x0 : FVec Ideal S256x1024 .f32) (x1 : FVec Ideal S256x3072 .f32) (x2 x3 x4 : FVec Ideal S256x512 .f32)
    (x5 x6 x7 : FVec Ideal S512x1024 .bf16) (x8 : FVec Ideal S1024x1024 .bf16) (x9 : FVec Ideal S1x1024 .f32)
    (r : Fin 256) (l : Fin 1024) :
    out0_10 (F := Ideal) x0 x1 x2 x3 x4 x5 x6 x7 x8 x9 (ix2 r l)
      = Rows.merge (fun k => x0 (ix2 r k)) (fun k => x9 (ix2 0 k)) (fun k => x1 (ix2 r k)) (fun k => x2 (ix2 r k))
          (fun k => x3 (ix2 r k)) (fun k => x4 (ix2 r k)) (fun k n => x5 (ix2 k n)) (fun k n => x6 (ix2 k n))
          (fun k n => x7 (ix2 k n)) (fun k n => x8 (ix2 k n)) l := by
  frame_out
  pointwise [k0_pay1, k0_pay2, k0_pay3, k0_pay4]
  simp only [Rows.merge, Rows.mixed, Rows.rms, Rows.rowMul]

/-- Where each window's block lies at grid point `t`: the rows move with the point, everything else stays. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

variable (m : (ℓ : Loc nD τ sig) → Buf (Elt Ideal) ℓ) (ρ : Dev nD → PrngReg)

/-- The result array as one function of the argument arrays: row by row `Rows.merge`. -/
def G (c : Dev nD) : Buf (Elt Ideal) ((c.tc : Thread nD τ).loc main_v5) := fun i : S16640x1024.Idx =>
  Rows.merge (fun k => (m ((c.tc : Thread nD τ).loc main_arg0) : FVec Ideal S16640x1024 .f32) (ix2 (i 0) k))
    (fun k => (m ((c.tc : Thread nD τ).loc main_arg9) : FVec Ideal S1024 .f32) (ix1 k))
    (fun k => (m ((c.tc : Thread nD τ).loc main_arg1) : FVec Ideal S16640x3072 .f32) (ix2 (i 0) k))
    (fun k => (m ((c.tc : Thread nD τ).loc main_arg2) : FVec Ideal S16640x512 .f32) (ix2 (i 0) k))
    (fun k => (m ((c.tc : Thread nD τ).loc main_arg3) : FVec Ideal S16640x512 .f32) (ix2 (i 0) k))
    (fun k => (m ((c.tc : Thread nD τ).loc main_arg4) : FVec Ideal S16640x512 .f32) (ix2 (i 0) k))
    (fun k n => (m ((c.tc : Thread nD τ).loc main_arg5) : FVec Ideal S512x1024 .f32) (ix2 k n))
    (fun k n => (m ((c.tc : Thread nD τ).loc main_arg6) : FVec Ideal S512x1024 .f32) (ix2 k n))
    (fun k n => (m ((c.tc : Thread nD τ).loc main_arg7) : FVec Ideal S512x1024 .f32) (ix2 k n))
    (fun k n => (m ((c.tc : Thread nD τ).loc main_arg8) : FVec Ideal S1024x1024 .f32) (ix2 k n)) (i 1)

/-- The result array after the run. -/
theorem final (c : Dev nD) : (dats m 0 c).arrAt 10 cfg0.N = G m c := by
  refine (dats m 0 c).arrAt_eq_of_covers 10 _ (by decide +kernel) fun t hf y => ?_
  blk_simp
  rw [after0_10]
  idx_vars y
  rw [block_apply]
  unfold G
  blk_point [iblk, V, idx t]

end Cert.Kernel4Ideal.Hand

namespace Cert.Proof.Merge

/-- The merge call and the plain reference end with equal results from memories that agree on the arguments. -/
theorem algebraic : Cert.algebraic_Kernel4Ideal_Reference4Ideal := by
  intro m g m' g' _ h
  refine ⟨fun c => Cert.Kernel4Ideal.Hand.G m c, ?_, ?_⟩
  · exact (θ_run Cert.Kernel4Ideal.defs _ _).mono
      (fun _ hr c => ⟨(hr c).1.trans (Cert.Kernel4Ideal.Hand.final m c), (hr c).2⟩)
      (Cert.Kernel4Ideal.Value.run_blocks (F := Ideal) m g)
  · refine (θ_run Cert.Reference4Ideal.defs _ _).mono (fun _ hr c => ⟨(hr c).1.trans ?_, (hr c).2⟩)
      (Cert.Reference4Ideal.Value.run (F := Ideal) m' g')
    obtain ⟨h0, h1, h2, h3, h4, h5, h6, h7, h8, h9⟩ := h c
    rw [h0, h1, h2, h3, h4, h5, h6, h7, h8, h9]
    funext i
    idx_vars i
    unfold Cert.Kernel4Ideal.Hand.G
    simp only [Rows.merge, Rows.mixed, Rows.rms, Rows.rowMul]
    pointwise

end Cert.Proof.Merge

end
-- ==== Proof.FoxRead.lean ====
/-
  The attention kernel's reads: the key and value blocks and the row of gate sums a chunk takes from the windows, the
  chunk's scores, and the update of the running maximum, normaliser and weighted sum over a chunk; with the closed forms
  of the chunk loops' offsets and trip counts.
-/
module

public import proofs.«01_k».proof.Proof.Gen.KernelIdeal.Value
public import Idealize.ShloMosaic.Lib.Pipeline.ValueKit
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The eight-block loop runs once per eight whole blocks before the diagonal one. -/
theorem trips1 : ∀ i : grid0.Coords, (k0_t1_loop i).trips = (i 1).val / 8 := by decide +kernel
/-- The eight-block loop's remainder is empty. -/
theorem trips2 : ∀ i : grid0.Coords, (k0_t2_loop i).trips = 0 := by decide +kernel
/-- The four-block loop runs at most once. -/
theorem trips3 : ∀ i : grid0.Coords, (k0_t3_loop i).trips = (i 1).val % 8 / 4 := by decide +kernel
/-- The four-block loop's remainder is empty. -/
theorem trips4 : ∀ i : grid0.Coords, (k0_t4_loop i).trips = 0 := by decide +kernel
/-- The one-block loop takes the blocks that are left. -/
theorem trips5 : ∀ i : grid0.Coords, (k0_t5_loop i).trips = (i 1).val % 4 := by decide +kernel
/-- The one-block loop's remainder is empty. -/
theorem trips6 : ∀ i : grid0.Coords, (k0_t6_loop i).trips = 0 := by decide +kernel
/-- The first key of the eight-block loop's chunk. -/
theorem off4 : ∀ (i : grid0.Coords) (k : Fin (k0_t1_loop i).trips), k0_off4 i k = ![2048 * k.val, 0] := by decide +kernel
/-- The first key of the four-block loop's chunk. -/
theorem off8 : ∀ (i : grid0.Coords) (k : Fin (k0_t3_loop i).trips),
    k0_off8 i k = ![2048 * ((i 1).val / 8) + 1024 * k.val, 0] := by decide +kernel
/-- The first key of the one-block loop's chunk. -/
theorem off12 : ∀ (i : grid0.Coords) (k : Fin (k0_t5_loop i).trips),
    k0_off12 i k = ![1024 * ((i 1).val / 4) + 256 * k.val, 0] := by decide +kernel
/-- The gate sums' row and first key in the eight-block loop. -/
theorem off5 : ∀ (i : grid0.Coords) (k : Fin (k0_t1_loop i).trips) (e : Fin 2),
    k0_off5 i k (BitVec.ofNat 32 e.val) = ![2 * (i 0).val + e.val, 2048 * k.val] := by decide +kernel
/-- The gate sums' row and first key in the four-block loop. -/
theorem off9 : ∀ (i : grid0.Coords) (k : Fin (k0_t3_loop i).trips) (e : Fin 2),
    k0_off9 i k (BitVec.ofNat 32 e.val) = ![2 * (i 0).val + e.val, 2048 * ((i 1).val / 8) + 1024 * k.val] := by
  decide +kernel
/-- The gate sums' row and first key in the one-block loop. -/
theorem off13 : ∀ (i : grid0.Coords) (k : Fin (k0_t5_loop i).trips) (e : Fin 2),
    k0_off13 i k (BitVec.ofNat 32 e.val) = ![2 * (i 0).val + e.val, 1024 * ((i 1).val / 4) + 256 * k.val] := by
  decide +kernel

/-- Row `j` of a key or value block at lane `l` (zero past the end). -/
def rowAt (x : Vec Ideal S16384x128 .bf16) (j : ℕ) (l : Fin 128) : EReal :=
  if h : j < 16384 then x (ix2 ⟨j, h⟩ l) else 0

/-- Entry `j` of row `e` of the gate sums (zero past the ends). -/
def lineAt (x : Vec Ideal S8x16384 .f32) (e j : ℕ) : EReal :=
  if h : e < 8 ∧ j < 16384 then x (ix2 ⟨e, h.1⟩ ⟨j, h.2⟩) else 0

/-- A load of `n` rows from row `o` reads those rows. -/
theorem readAt_rows {m : Memref sig .tc .vmem S16384x128 .bf16} (h : m.IsWhole) (x : Vec Ideal S16384x128 .bf16) (o : ℕ)
    {off : Fin 2 → ℕ} (ho : off = ![o, 0]) (n : ℕ) {inb} (j : Fin n) (l : Fin 128) :
    View.readAt (Elt Ideal) m.view (Rect.unit (s := S16384x128) off ![n, 128] inb).toLoadRect (h.unread x) (ix2 j l)
      = rowAt x (o + j.val) l := by
  subst ho
  have hi := inb 0
  have hj : o + j.val < 16384 := lt_of_lt_of_le (Nat.add_lt_add_left j.isLt o) hi
  rw [h.readAt_unread]
  unfold rowAt
  rw [dif_pos hj]
  congr 1
  funext a
  fin_cases a
  · exact Fin.ext (by show o + 1 * j.val = o + j.val; omega)
  · exact Fin.ext (by show 0 + 1 * l.val = l.val; omega)

/-- A load of `n` entries of row `e` from entry `o` reads those entries. -/
theorem readAt_line {m : Memref sig .tc .vmem S8x16384 .f32} (h : m.IsWhole) (x : Vec Ideal S8x16384 .f32) (e o : ℕ)
    {off : Fin 2 → ℕ} (ho : off = ![e, o]) (n : ℕ) {inb} (j : Fin n) :
    View.readAt (Elt Ideal) m.view (Rect.unit (s := S8x16384) off ![1, n] inb).toLoadRect (h.unread x) (ix2 0 j)
      = lineAt x e (o + j.val) := by
  subst ho
  have hi := inb 1
  have h0 := inb 0
  have he : e < 8 := lt_of_lt_of_le (Nat.lt_succ_self e) h0
  have hj : o + j.val < 16384 := lt_of_lt_of_le (Nat.add_lt_add_left j.isLt o) hi
  rw [h.readAt_unread]
  unfold lineAt
  rw [dif_pos ⟨he, hj⟩]
  congr 1
  funext a
  fin_cases a
  · exact Fin.ext (by show e + 1 * 0 = e; omega)
  · exact Fin.ext (by show o + 1 * j.val = o + j.val; omega)

/-- The scores of query row `r` against the `n` keys from `o`, less the keys' gate sums to base two. -/
def tile (q : FVec Ideal S256x128 .bf16) (x2 : Vec Ideal S16384x128 .bf16) (x5 : Vec Ideal S8x16384 .f32) (e o : ℕ) (r : Fin 256)
    {n : ℕ} (j : Fin n) : EReal :=
  ∑ l, q (ix2 r l) * rowAt x2 (o + j.val) l - lineAt x5 e (o + j.val) * (((Real.log 2)⁻¹ : ℝ) : EReal)

/-- The running maximum after a chunk of scores `t`, shifted by the query's gate sum `c`. -/
def newMax {n : ℕ} (t : Fin n → EReal) (c m : EReal) : EReal :=
  max m (Finset.fold max (Idealize.ShloMosaic.Ideal.ofBits .f32 4286578688#32) t Finset.univ + c)

/-- The update of maximum, normaliser and weighted sum over a chunk of scores `t` and values `V`. -/
def Upd {n : ℕ} (t V : Fin n → EReal) (c m l a m' l' a' : EReal) : Prop :=
  m' = newMax t c m
    ∧ l' = Idealize.ShloMosaic.Ideal.exp2 (m - m') * l + ∑ j, Idealize.ShloMosaic.Ideal.exp2 (t j - (m' - c))
    ∧ a' = Idealize.ShloMosaic.Ideal.exp2 (m - m') * a + ∑ j, Idealize.ShloMosaic.Ideal.exp2 (t j - (m' - c)) * V j

/-- The update from its three equations, the new maximum written out. -/
theorem upd_of {n : ℕ} {t V : Fin n → EReal} {c m l a m' l' a' : EReal} (hm : m' = newMax t c m)
    (hl : l' = Idealize.ShloMosaic.Ideal.exp2 (m - newMax t c m) * l
      + ∑ j, Idealize.ShloMosaic.Ideal.exp2 (t j - (newMax t c m - c)))
    (ha : a' = Idealize.ShloMosaic.Ideal.exp2 (m - newMax t c m) * a
      + ∑ j, Idealize.ShloMosaic.Ideal.exp2 (t j - (newMax t c m - c)) * V j) :
    Upd t V c m l a m' l' a' := ⟨hm, hm ▸ hl, hm ▸ ha⟩

end Cert.KernelIdeal.Hand

end
-- ==== Proof.Online.lean ====
/-
  The running softmax of one query over the extended reals: what a maximum, a normaliser and a weighted sum hold after a set
  of keys, how a chunk of keys extends them, and that their quotient is the softmax average of the values.
-/
module

public import Idealize.ShloMosaic.PureOps.Ideal
public import Mathlib.Analysis.SpecialFunctions.Pow.Real
public import Mathlib.Analysis.SpecialFunctions.Log.Basic

@[expose] public section

noncomputable section

open Idealize.ShloMosaic

namespace Cert.Proof.Online

/-- The weight of a logit `x` against the shift `M`, in base two. -/
def wt (x M : ℝ) : ℝ := Real.rpow 2 (x - M)

/-- Weights are positive. -/
theorem wt_pos (x M : ℝ) : 0 < wt x M := Real.rpow_pos_of_pos two_pos _

/-- Changing the shift multiplies the weight. -/
theorem wt_shift (x M M' : ℝ) : wt M M' * wt x M = wt x M' := by
  unfold wt
  refine (Real.rpow_add two_pos _ _).symm.trans ?_
  congr 1
  ring

/-- A nonnegative real factor goes into a sum of extended reals. -/
theorem coe_mul_sum {ι : Type*} (S : Finset ι) (c : ℝ) (hc : 0 ≤ c) (f : ι → EReal) :
    (c : EReal) * ∑ j ∈ S, f j = ∑ j ∈ S, (c : EReal) * f j := by
  classical
  induction S using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A finite sum of reals is the real sum. -/
theorem coe_sum {ι : Type*} (S : Finset ι) (f : ι → ℝ) : ((∑ j ∈ S, f j : ℝ) : EReal) = ∑ j ∈ S, (f j : EReal) := by
  classical
  induction S using Finset.induction_on with
  | empty => simp
  | insert a s ha ih => rw [Finset.sum_insert ha, Finset.sum_insert ha, EReal.coe_add, ih]

/-- What the running state holds after the keys `S`: a real shift, the weights' sum and the weighted values' sum. -/
def Seen (S : Finset ℕ) (x : ℕ → ℝ) (v : ℕ → EReal) (m l a : EReal) : Prop :=
  ∃ M : ℝ, m = M ∧ l = ((∑ j ∈ S, wt (x j) M : ℝ) : EReal) ∧ a = ∑ j ∈ S, (wt (x j) M : EReal) * v j

/-- A sum over the keys of a chunk, numbered from the chunk's start. -/
theorem sum_chunk {A : Type*} [AddCommMonoid A] (off n : ℕ) (f : ℕ → A) :
    ∑ j ∈ Finset.Ico off (off + n), f j = ∑ j : Fin n, f (off + j.val) := by
  rw [Finset.sum_Ico_eq_sum_range, Nat.add_sub_cancel_left, Finset.sum_range]

/-- One chunk of `n` keys from `off`: the state is rescaled to the new shift and the chunk's weights are added. -/
theorem Seen.step {S : Finset ℕ} {x : ℕ → ℝ} {v : ℕ → EReal} {m l a : EReal} (h : Seen S x v m l a) {n off : ℕ}
    (hd : Disjoint S (Finset.Ico off (off + n))) (t V : Fin n → EReal) (c : ℝ)
    (ht : ∀ j, t j = ((x (off + j.val) - c : ℝ) : EReal)) (hV : ∀ j, V j = v (off + j.val)) {m' l' a' : EReal}
    (hm : ∃ M' : ℝ, m' = M')
    (hl : l' = Ideal.exp2 (m - m') * l + ∑ j, Ideal.exp2 (t j - (m' - c)))
    (ha : a' = Ideal.exp2 (m - m') * a + ∑ j, Ideal.exp2 (t j - (m' - c)) * V j) :
    Seen (S ∪ Finset.Ico off (off + n)) x v m' l' a' := by
  obtain ⟨M, rfl, rfl, rfl⟩ := h
  obtain ⟨M', rfl⟩ := hm
  have hp : ∀ j, Ideal.exp2 (t j - ((M' : EReal) - c)) = (wt (x (off + j.val)) M' : EReal) := by
    intro j
    rw [ht, ← EReal.coe_sub, ← EReal.coe_sub, Ideal.exp2_coe]
    unfold wt
    congr 2
    ring
  have hα : Ideal.exp2 ((M : EReal) - M') = (wt M M' : EReal) := by
    rw [← EReal.coe_sub, Ideal.exp2_coe]; rfl
  refine ⟨M', rfl, ?_, ?_⟩
  · rw [hl, hα, Finset.sum_union hd, sum_chunk, EReal.coe_add, ← EReal.coe_mul, Finset.mul_sum, coe_sum Finset.univ]
    simp only [hp, wt_shift]
  · rw [ha, hα, Finset.sum_union hd, sum_chunk, coe_mul_sum _ _ (wt_pos _ _).le]
    simp only [hp, hV, ← mul_assoc, ← EReal.coe_mul, wt_shift]

/-- The first chunk, from the empty state: keys past the `k`-th are masked out. -/
theorem Seen.first {x : ℕ → ℝ} {v : ℕ → EReal} {n off : ℕ} (k : ℕ) (hk : k ≤ n) (t V : Fin n → EReal) (c : ℝ)
    (ht : ∀ j, t j = if j.val < k then ((x (off + j.val) - c : ℝ) : EReal) else ⊥) (hV : ∀ j, V j = v (off + j.val))
    {m' l' a' : EReal} (hm : ∃ M' : ℝ, m' = M')
    (hl : l' = Ideal.exp2 (⊥ - m') * 0 + ∑ j, Ideal.exp2 (t j - (m' - c)))
    (ha : a' = Ideal.exp2 (⊥ - m') * 0 + ∑ j, Ideal.exp2 (t j - (m' - c)) * V j) :
    Seen (Finset.Ico off (off + k)) x v m' l' a' := by
  obtain ⟨M', rfl⟩ := hm
  have hp : ∀ j, Ideal.exp2 (t j - ((M' : EReal) - c)) = if j.val < k then (wt (x (off + j.val)) M' : EReal) else 0 := by
    intro j
    rw [ht]
    split
    · rw [← EReal.coe_sub, ← EReal.coe_sub, Ideal.exp2_coe]
      unfold wt
      congr 2
      ring
    · rw [← EReal.coe_sub, EReal.bot_sub, Ideal.exp2_bot]
  have hcut : ∀ g : ℕ → EReal, ∑ j : Fin n, (if j.val < k then g j.val else 0) = ∑ j : Fin k, g j.val := by
    intro g
    rw [← Finset.sum_range (fun j => if j < k then g j else 0), ← Finset.sum_range g, ← Finset.sum_filter]
    congr 1
    ext j
    simp only [Finset.mem_filter, Finset.mem_range]
    omega
  refine ⟨M', rfl, ?_, ?_⟩
  · rw [hl, mul_zero, zero_add, coe_sum, sum_chunk]
    simp only [hp]
    exact hcut (fun j => (wt (x (off + j)) M' : EReal))
  · rw [ha, mul_zero, zero_add, sum_chunk]
    simp only [hp, hV, ite_mul, zero_mul]
    exact hcut (fun j => (wt (x (off + j)) M' : EReal) * v (off + j))

/-- The quotient of the running state: the softmax average, with logits in units of `1 / ln 2`. -/
theorem Seen.quot {S : Finset ℕ} {x : ℕ → ℝ} {v : ℕ → EReal} {m l a : EReal} (h : Seen S x v m l a) (hS : S.Nonempty)
    (s : ℕ → ℝ) (hx : ∀ j ∈ S, x j = s j * (Real.log 2)⁻¹) :
    Ideal.div a l = ∑ j ∈ S, ((Real.exp (s j) / ∑ i ∈ S, Real.exp (s i) : ℝ) : EReal) * v j := by
  obtain ⟨M, rfl, rfl, rfl⟩ := h
  have hL : 0 < ∑ j ∈ S, wt (x j) M := Finset.sum_pos (fun j _ => wt_pos _ _) hS
  have hlog : Real.log 2 ≠ 0 := (Real.log_pos one_lt_two).ne'
  have hw : ∀ j ∈ S, wt (x j) M = Real.exp (s j) * Real.exp (-(M * Real.log 2)) := by
    intro j hj
    unfold wt
    refine (Real.rpow_def_of_pos two_pos _).trans ?_
    rw [hx j hj, ← Real.exp_add]
    congr 1
    field_simp
    ring
  have hne : ((∑ j ∈ S, wt (x j) M : ℝ) : EReal) ≠ 0 := by exact_mod_cast hL.ne'
  unfold Ideal.div
  rw [if_neg hne, ← EReal.coe_inv, mul_comm, coe_mul_sum _ _ (inv_pos.mpr hL).le]
  refine Finset.sum_congr rfl fun j hj => ?_
  rw [← mul_assoc, ← EReal.coe_mul]
  congr 2
  rw [hw j hj, Finset.sum_congr rfl hw, ← Finset.sum_mul]
  have h1 := (Real.exp_pos (-(M * Real.log 2))).ne'
  have h2 : (∑ i ∈ S, Real.exp (s i)) ≠ 0 := (Finset.sum_pos (fun j _ => Real.exp_pos _) hS).ne'
  field_simp

/-- The plain softmax of masked logits times the values, over all `n` keys: only the keys below `k` count. -/
theorem softmax_sum {n k : ℕ} (hk : 0 < k) (hkn : k ≤ n) (s : ℕ → ℝ) (v : ℕ → EReal) (mx : EReal) (hm : ∃ M : ℝ, mx = M)
    (t V : Fin n → EReal) (ht : ∀ j, t j = if j.val < k then ((s j.val : ℝ) : EReal) else ⊥) (hV : ∀ j, V j = v j.val) :
    ∑ j, Ideal.div (Ideal.exp (t j - mx)) (∑ i, Ideal.exp (t i - mx)) * V j
      = ∑ j ∈ Finset.range k, ((Real.exp (s j) / ∑ i ∈ Finset.range k, Real.exp (s i) : ℝ) : EReal) * v j := by
  obtain ⟨M, rfl⟩ := hm
  have he : ∀ j, Ideal.exp (t j - (M : EReal)) = if j.val < k then ((Real.exp (s j.val) * Real.exp (-M) : ℝ) : EReal) else 0 := by
    intro j
    rw [ht]
    split
    · rw [← EReal.coe_sub, Ideal.exp_coe, ← Real.exp_add]
      rfl
    · rw [EReal.bot_sub, Ideal.exp_bot]
  have hcut : ∀ g : ℕ → EReal, ∑ j : Fin n, (if j.val < k then g j.val else 0) = ∑ j ∈ Finset.range k, g j := by
    intro g
    rw [← Finset.sum_range (fun j => if j < k then g j else 0), ← Finset.sum_filter]
    congr 1
    ext j
    simp only [Finset.mem_filter, Finset.mem_range]
    omega
  have hden : ∑ i, Ideal.exp (t i - (M : EReal)) = (((∑ i ∈ Finset.range k, Real.exp (s i)) * Real.exp (-M) : ℝ) : EReal) := by
    simp only [he]
    rw [hcut (fun j => ((Real.exp (s j) * Real.exp (-M) : ℝ) : EReal)), ← coe_sum, Finset.sum_mul]
  have hpos : 0 < ∑ i ∈ Finset.range k, Real.exp (s i) :=
    Finset.sum_pos (fun j _ => Real.exp_pos _) ⟨0, Finset.mem_range.mpr hk⟩
  have hne : (((∑ i ∈ Finset.range k, Real.exp (s i)) * Real.exp (-M) : ℝ) : EReal) ≠ 0 := by
    exact_mod_cast (mul_pos hpos (Real.exp_pos _)).ne'
  rw [hden, ← hcut (fun j => ((Real.exp (s j) / ∑ i ∈ Finset.range k, Real.exp (s i) : ℝ) : EReal) * v j)]
  refine Finset.sum_congr rfl fun j _ => ?_
  rw [he, hV]
  unfold Ideal.div
  rw [if_neg hne, ← EReal.coe_inv]
  split
  · rw [← EReal.coe_mul]
    congr 2
    have h1 := (Real.exp_pos (-M)).ne'
    have h2 := hpos.ne'
    field_simp
  · rw [zero_mul, zero_mul]

end Cert.Proof.Online

end
-- ==== Proof.FoxSeen.lean ====
/-
  The attention kernel's chunk loops keep the running softmax: what one query's maximum, normaliser and weighted sum hold
  after the keys of the diagonal block up to the query and the keys below a bound.
-/
module

public import proofs.«01_k».proof.Proof.FoxRead
public import proofs.«01_k».proof.Proof.Online

@[expose] public section

noncomputable section

namespace Cert.KernelIdeal.Hand

open Idealize.ShloMosaic Cert.KernelIdeal Cert.KernelIdeal.Gen Cert.Proof.Online

/-- The score of query row `r` against key `j`, less the key's gate sum to base two. -/
def score (q : FVec Ideal S256x128 .bf16) (x2 : Vec Ideal S16384x128 .bf16) (x5 : Vec Ideal S8x16384 .f32) (e : ℕ) (r : Fin 256)
    (j : ℕ) : EReal :=
  ∑ l, q (ix2 r l) * rowAt x2 j l - lineAt x5 e j * (((Real.log 2)⁻¹ : ℝ) : EReal)

/-- The keys of query row `r`'s own block up to the query. -/
def diag (i : grid0.Coords) (r : Fin 256) : Finset ℕ := Finset.Ico (256 * (i 1).val) (256 * (i 1).val + (r.val + 1))

/-- The pattern of minus infinity. -/
theorem ofBits_negInf : Idealize.ShloMosaic.Ideal.ofBits .f32 4286578688#32 = ⊥ := by
  simp [Idealize.ShloMosaic.Ideal.ofBits, Idealize.ShloMosaic.Ideal.ieee]

/-- The maximum of minus infinity and real numbers, one of them at least, is real. -/
theorem fold_real {n : ℕ} (t : Fin n → EReal) (hb : ∀ j, t j ≠ ⊤) (ht : ∃ j, t j ≠ ⊥) :
    ∃ M : ℝ, Finset.fold max ⊥ t Finset.univ = M := by
  have hbot : Finset.fold max ⊥ t Finset.univ ≠ ⊥ := by
    obtain ⟨j, hj⟩ := ht
    intro h
    have : t j ≤ Finset.fold max ⊥ t Finset.univ := (Finset.le_fold_max _).mpr (Or.inr ⟨j, Finset.mem_univ j, le_rfl⟩)
    exact hj (le_bot_iff.mp (h ▸ this))
  have htop : Finset.fold max ⊥ t Finset.univ ≠ ⊤ := by
    have : Finset.fold max ⊥ t Finset.univ < ⊤ :=
      (Finset.fold_max_lt _).mpr ⟨bot_lt_top, fun j _ => lt_top_iff_ne_top.mpr (hb j)⟩
    exact this.ne
  exact ⟨_, (EReal.coe_toReal htop hbot).symm⟩

/-- The new maximum is real, from real scores. -/
theorem newMax_real {n : ℕ} (t : Fin n → EReal) (hb : ∀ j, t j ≠ ⊤) (ht : ∃ j, t j ≠ ⊥) (c : ℝ) (m : EReal)
    (hm : m ≠ ⊤) : ∃ M : ℝ, newMax t c m = M := by
  obtain ⟨M, hM⟩ := fold_real t hb ht
  unfold newMax
  rw [ofBits_negInf, hM, ← EReal.coe_add]
  induction m using EReal.rec with
  | bot => exact ⟨M + c, max_eq_right bot_le⟩
  | coe m => exact ⟨max m (M + c), (EReal.coe_strictMono.monotone.map_max).symm⟩
  | top => exact absurd rfl hm

/-- One loop's trips: `o` is the first key of each trip's chunk. -/
theorem seen_loop {D : Finset ℕ} {B : ℕ} (hD : ∀ j ∈ D, B ≤ j) {x : ℕ → ℝ} {v : ℕ → EReal} {c : ℝ} {W : ℕ} (hW : 0 < W) (N : ℕ)
    (o : ℕ → ℕ) (ho : ∀ k, o (k + 1) = o k + W) (hB : o N ≤ B) (M L A : ℕ → EReal) (t V : ℕ → Fin W → EReal)
    (ht : ∀ k j, t k j = ((x (o k + j.val) - c : ℝ) : EReal)) (hV : ∀ k j, V k j = v (o k + j.val))
    (h0 : Seen (D ∪ Finset.range (o 0)) x v (M 0) (L 0) (A 0))
    (hs : ∀ k, k < N → Upd (t k) (V k) c (M k) (L k) (A k) (M (k + 1)) (L (k + 1)) (A (k + 1))) :
    Seen (D ∪ Finset.range (o N)) x v (M N) (L N) (A N) := by
  induction N with
  | zero => exact h0
  | succ N ih =>
    have hN := ho N
    have h := ih (by omega) (fun k hk => hs k (by omega))
    obtain ⟨hm, hl, ha⟩ := hs N (by omega)
    have hset : D ∪ Finset.range (o (N + 1)) = (D ∪ Finset.range (o N)) ∪ Finset.Ico (o N) (o N + W) := by
      ext j
      simp only [Finset.mem_union, Finset.mem_range, Finset.mem_Ico, or_assoc]
      rw [hN]
      exact or_congr_right (by omega)
    have hreal : ∃ M' : ℝ, M (N + 1) = M' := by
      rw [hm]
      obtain ⟨M0, hM0, -, -⟩ := h
      refine newMax_real _ (fun j => ?_) ⟨⟨0, hW⟩, ?_⟩ c _ ?_
      · rw [ht]; exact EReal.coe_ne_top _
      · rw [ht]; exact EReal.coe_ne_bot _
      · rw [hM0]; exact EReal.coe_ne_top _
    rw [hset]
    refine h.step ?_ (t N) (V N) c (ht N) (hV N) hreal hl ha
    rw [Finset.disjoint_left]
    intro j hj hj'
    rw [Finset.mem_Ico] at hj'
    rcases Finset.mem_union.mp hj with h1 | h1
    · have := hD j h1; omega
    · have := Finset.mem_range.mp h1; omega

end Cert.KernelIdeal.Hand

end
-- ==== Proof.FoxDiag.lean ====
/-
  The attention kernel's diagonal block: the first chunk of keys, masked causally, for each of the two heads.
-/
module

public import proofs.«01_k».proof.Proof.FoxSeen
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Proof.Online

/-- The mask's named value. -/
theorem mask_eq : (Named.named (F := Ideal) κ "mask" 4048155338#32 : Ideal .f32) = (⊥ : EReal) := rfl

/-- Selecting the keys up to the query. -/
theorem sel_sle (x r : Fin 256) (a b : EReal) :
    Scalar.select (IntOp.cmpi CmpIPredicate.sle (BitVec.ofNat 32 x.val) (BitVec.ofNat 32 r.val)) a b
      = if x.val < r.val + 1 then a else b := by
  have h : ∀ x r : Fin 256, IntOp.cmpi CmpIPredicate.sle (BitVec.ofNat 32 x.val) (BitVec.ofNat 32 r.val)
      = if x.val < r.val + 1 then 1#1 else 0#1 := by decide +kernel
  rw [h]
  split <;> rfl

/-- A masked score of the diagonal block. -/
def tileD (q : FVec Ideal S256x128 .bf16) (K : Vec Ideal S256x128 .bf16) (C : Vec Ideal S1x256 .f32) (r : Fin 256) (j : Fin 256) :
    EReal := if j.val < r.val + 1 then ∑ l, q (ix2 r l) * K (ix2 j l) - C (ix2 0 j) * (((Real.log 2)⁻¹ : ℝ) : EReal) else ⊥

/-- The diagonal block, head one of the pair. -/
theorem diag_a (q : FVec Ideal S256x128 .bf16) (cq : FVec Ideal S256x1 .f32) (K V : Vec Ideal S256x128 .bf16) (C : Vec Ideal S1x256 .f32)
    (r : Fin 256) (d : Fin 128) :
    Upd (tileD q K C r) (fun j => V (ix2 j d)) (cq (ix2 r 0)) ⊥ 0 0
      (k0_pay575 (F := Ideal) q k0_pay535 cq k0_pay540 (k0_pay567 K) C (ix2 r 0))
      (k0_pay589 (F := Ideal) k0_pay541 (k0_pay577 cq (k0_pay573 q k0_pay535 (k0_pay567 K) C) (k0_pay575 q k0_pay535 cq k0_pay540 (k0_pay567 K) C))
        (k0_pay587 k0_pay540 (k0_pay575 q k0_pay535 cq k0_pay540 (k0_pay567 K) C)) (ix2 r 0))
      (k0_pay595 (F := Ideal) k0_pay542 (k0_pay568 V) (k0_pay577 cq (k0_pay573 q k0_pay535 (k0_pay567 K) C) (k0_pay575 q k0_pay535 cq k0_pay540 (k0_pay567 K) C))
        (k0_pay587 k0_pay540 (k0_pay575 q k0_pay535 cq k0_pay540 (k0_pay567 K) C)) (ix2 r d)) := by
  refine upd_of ?_ ?_ ?_
  · pointwise [k0_pay575, k0_pay573, k0_pay535, k0_pay540, k0_pay567]
    simp only [mask_eq, sel_sle]
    rfl
  · pointwise [k0_pay589, k0_pay577, k0_pay587, k0_pay541, k0_pay575, k0_pay573, k0_pay535, k0_pay540, k0_pay567]
    simp only [mask_eq, sel_sle]
    rfl
  · pointwise [k0_pay595, k0_pay577, k0_pay587, k0_pay542, k0_pay568, k0_pay575, k0_pay573, k0_pay535, k0_pay540, k0_pay567]
    simp only [mask_eq, sel_sle]
    rfl

/-- The diagonal block, head two of the pair. -/
theorem diag_b (q : FVec Ideal S256x128 .bf16) (cq : FVec Ideal S256x1 .f32) (K V : Vec Ideal S256x128 .bf16) (C : Vec Ideal S1x256 .f32)
    (r : Fin 256) (d : Fin 128) :
    Upd (tileD q K C r) (fun j => V (ix2 j d)) (cq (ix2 r 0)) ⊥ 0 0
      (k0_pay576 (F := Ideal) cq k0_pay543 (k0_pay574 q k0_pay535 (k0_pay567 K) C) (ix2 r 0))
      (k0_pay590 (F := Ideal) k0_pay544 (k0_pay578 cq k0_pay543 (k0_pay574 q k0_pay535 (k0_pay567 K) C))
        (k0_pay588 cq k0_pay543 (k0_pay574 q k0_pay535 (k0_pay567 K) C)) (ix2 r 0))
      (k0_pay596 (F := Ideal) k0_pay545 (k0_pay568 V) (k0_pay578 cq k0_pay543 (k0_pay574 q k0_pay535 (k0_pay567 K) C))
        (k0_pay588 cq k0_pay543 (k0_pay574 q k0_pay535 (k0_pay567 K) C)) (ix2 r d)) := by
  refine upd_of ?_ ?_ ?_
  · pointwise [k0_pay576, k0_pay574, k0_pay535, k0_pay543, k0_pay567]
    simp only [mask_eq, sel_sle]
    rfl
  · pointwise [k0_pay590, k0_pay578, k0_pay588, k0_pay544, k0_pay576, k0_pay574, k0_pay535, k0_pay543, k0_pay567]
    simp only [mask_eq, sel_sle]
    rfl
  · pointwise [k0_pay596, k0_pay578, k0_pay588, k0_pay545, k0_pay568, k0_pay576, k0_pay574, k0_pay535, k0_pay543, k0_pay567]
    simp only [mask_eq, sel_sle]
    rfl

/-- The update over the masked diagonal block leaves the running softmax over its keys up to the query. -/
theorem seen_diag {i : grid0.Coords} {r : Fin 256} {x : ℕ → ℝ} {v : ℕ → EReal} {cr : ℝ} {q : FVec Ideal S256x128 .bf16}
    {K : Vec Ideal S256x128 .bf16} {C : Vec Ideal S1x256 .f32} {V : Fin 256 → EReal} {m l a cq : EReal} (hc : cq = (cr : EReal))
    (hx : ∀ j : Fin 256, ∑ l, q (ix2 r l) * K (ix2 j l) - C (ix2 0 j) * (((Real.log 2)⁻¹ : ℝ) : EReal) = ((x (256 * (i 1).val + j.val) - cr : ℝ) : EReal))
    (hV : ∀ j, V j = v (256 * (i 1).val + j.val)) (h : Upd (tileD q K C r) V cq ⊥ 0 0 m l a) :
    Seen (diag i r) x v m l a := by
  subst hc
  have ht : ∀ j : Fin 256, tileD q K C r j = if j.val < r.val + 1 then ((x (256 * (i 1).val + j.val) - cr : ℝ) : EReal) else ⊥ := by
    intro j
    unfold tileD
    rw [hx]
  obtain ⟨hm, hl, ha⟩ := h
  refine Seen.first (r.val + 1) r.isLt (tileD q K C r) V cr ht hV ?_ hl ha
  rw [hm]
  refine newMax_real _ (fun j => ?_) ⟨⟨0, by decide⟩, ?_⟩ cr _ bot_ne_top
  · rw [ht]
    split
    · exact EReal.coe_ne_top _
    · exact bot_ne_top
  · rw [ht, if_pos (Nat.succ_pos _)]
    exact EReal.coe_ne_bot _

/-- Selecting by the first head's lanes. -/
theorem sel_lane (d : Fin 128) (a b : EReal) :
    Scalar.select (IntOp.cmpi CmpIPredicate.slt (BitVec.ofNat 32 d.val) 64#32) a b = if d.val < 64 then a else b := by
  have h : ∀ d : Fin 128, IntOp.cmpi CmpIPredicate.slt (BitVec.ofNat 32 d.val) 64#32 = if d.val < 64 then 1#1 else 0#1 := by
    decide +kernel
  rw [h]
  split <;> rfl

/-- The stored block on the first head's lanes. -/
theorem block_lo (a b : FVec Ideal S256x1 .f32) (u v : FVec Ideal S256x128 .f32) (r : Fin 256) (d : Fin 128) (h : d.val < 64) :
    k0_pay29 (F := Ideal) k0_pay531 a u b v (ix2 r d) = Idealize.ShloMosaic.Ideal.div (u (ix2 r d)) (a (ix2 r 0)) := by
  pointwise [k0_pay29, k0_pay531]
  exact (sel_lane d _ _).trans (if_pos h)

/-- The stored block on the second head's lanes. -/
theorem block_hi (a b : FVec Ideal S256x1 .f32) (u v : FVec Ideal S256x128 .f32) (r : Fin 256) (d : Fin 128) (h : ¬ d.val < 64) :
    k0_pay29 (F := Ideal) k0_pay531 a u b v (ix2 r d) = Idealize.ShloMosaic.Ideal.div (v (ix2 r d)) (b (ix2 r 0)) := by
  pointwise [k0_pay29, k0_pay531]
  exact (sel_lane d _ _).trans (if_neg h)

end Cert.KernelIdeal.Hand

end
-- ==== Proof.FoxZero.lean ====
/-
  The attention kernel's remainder loops, which make no trip.
-/
module
public import proofs.«01_k».proof.Proof.FoxSeen
public import Idealize.ShloMosaic.Lib.Pipeline.ValueKit
@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI Idealize.SL.Sem
open Cert.KernelIdeal Cert.KernelIdeal.Gen Cert.Proof.Online

/-- The eight-block loop's remainder makes no trip: head one of the pair is as it was. -/
theorem loop2a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (v417 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.1 (ix2 r 0)) (init.2.1 (ix2 r 0)) (init.2.2.1 (ix2 r d))) :
    Seen S x v ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).1 (ix2 r 0)) ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).2.1 (ix2 r 0)) ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).2.2.1 (ix2 r d)) := by
  rw [trips2, st_k0_t2_zero]
  exact h0

/-- The eight-block loop's remainder makes no trip: head two of the pair is as it was. -/
theorem loop2b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (v417 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.2.2.2.1 (ix2 r 0)) (init.2.2.2.2.1 (ix2 r 0)) (init.2.2.2.2.2.1 (ix2 r d))) :
    Seen S x v ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).2.2.2.1 (ix2 r 0)) ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).2.2.2.2.1 (ix2 r 0)) ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 v417 (harg4.unread x2) (harg5.unread x3) (harg7.unread x5) X_arg9 X_arg10 init (k0_t2_loop i).trips).2.2.2.2.2.1 (ix2 r d)) := by
  rw [trips2, st_k0_t2_zero]
  exact h0

/-- The four-block loop's remainder makes no trip: head one of the pair is as it was. -/
theorem loop4a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (v444 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.1 (ix2 r 0)) (init.2.1 (ix2 r 0)) (init.2.2.1 (ix2 r d))) :
    Seen S x v ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).1 (ix2 r 0)) ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).2.1 (ix2 r 0)) ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).2.2.1 (ix2 r d)) := by
  rw [trips4, st_k0_t4_zero]
  exact h0

/-- The four-block loop's remainder makes no trip: head two of the pair is as it was. -/
theorem loop4b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (v444 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.2.2.2.1 (ix2 r 0)) (init.2.2.2.2.1 (ix2 r 0)) (init.2.2.2.2.2.1 (ix2 r d))) :
    Seen S x v ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).2.2.2.1 (ix2 r 0)) ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).2.2.2.2.1 (ix2 r 0)) ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 v444 (harg4.unread x2) (harg5.unread x3) (harg7.unread x5) X_arg9 X_arg10 init (k0_t4_loop i).trips).2.2.2.2.2.1 (ix2 r d)) := by
  rw [trips4, st_k0_t4_zero]
  exact h0

/-- The one-block loop's remainder makes no trip: head one of the pair is as it was. -/
theorem loop6a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v453 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.1 (ix2 r 0)) (init.2.1 (ix2 r 0)) (init.2.2.1 (ix2 r d))) :
    Seen S x v ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).1 (ix2 r 0)) ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).2.1 (ix2 r 0)) ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).2.2.1 (ix2 r d)) := by
  rw [trips6, st_k0_t6_zero]
  exact h0

/-- The one-block loop's remainder makes no trip: head two of the pair is as it was. -/
theorem loop6b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v453 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {S : Finset ℕ} {x : ℕ → ℝ} {v : ℕ → EReal}
    (h0 : Seen S x v (init.2.2.2.1 (ix2 r 0)) (init.2.2.2.2.1 (ix2 r 0)) (init.2.2.2.2.2.1 (ix2 r d))) :
    Seen S x v ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).2.2.2.1 (ix2 r 0)) ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).2.2.2.2.1 (ix2 r 0)) ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v453 (harg4.unread x2) (harg5.unread x3) (harg7.unread x5) X_arg9 X_arg10 init (k0_t6_loop i).trips).2.2.2.2.2.1 (ix2 r d)) := by
  rw [trips6, st_k0_t6_zero]
  exact h0

end Cert.KernelIdeal.Hand

end
-- ==== Proof.FoxLoop1.lean ====
/-
  The attention kernel's eight-block loop: what one trip does to the running softmax of each of the two heads, and the loop.
-/
module
public import proofs.«01_k».proof.Proof.FoxSeen
public import Idealize.ShloMosaic.Lib.Pipeline.ValueKit
@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI Idealize.SL.Sem
open Cert.KernelIdeal Cert.KernelIdeal.Gen Cert.Proof.Online

/-- One trip of the eight-block loop, head one of the pair. -/
theorem trip1a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t1_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v10 x2 x5 (2 * (i 0).val + 0) (2048 * k.val) r : Fin 2048 → EReal) (fun j => rowAt x3 ((2048 * k.val) + j.val) d) (v33 (ix2 r 0)) (acc.1 (ix2 r 0)) (acc.2.1 (ix2 r 0)) (acc.2.2.1 (ix2 r d))
      ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).1 (ix2 r 0)) ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).2.1 (ix2 r 0)) ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).2.2.1 (ix2 r d)) := by
  refine upd_of ?_ ?_ ?_
  ·
    unfold tripR_k0_t1 trip_k0_t1
    dsimp only
    sl_unfold_run_names
    pointwise [k0_pay31, k0_pay32, k0_pay38]
    simp only [readAt_rows harg4 x2 (2048 * k.val) (off4 i k) 2048, readAt_line harg7 x5 (2 * (i 0).val + 0) (2048 * k.val) (off5 i k ⟨0, by decide⟩) 2048]
    rfl
  ·
    unfold tripR_k0_t1 trip_k0_t1
    dsimp only
    sl_unfold_run_names
    pointwise [k0_pay31, k0_pay32, k0_pay38]
    simp only [readAt_rows harg4 x2 (2048 * k.val) (off4 i k) 2048, readAt_line harg7 x5 (2 * (i 0).val + 0) (2048 * k.val) (off5 i k ⟨0, by decide⟩) 2048]
    rfl
  ·
    unfold tripR_k0_t1 trip_k0_t1
    dsimp only
    sl_unfold_run_names
    pointwise [k0_pay31, k0_pay32, k0_pay38]
    simp only [readAt_rows harg4 x2 (2048 * k.val) (off4 i k) 2048, readAt_rows harg5 x3 (2048 * k.val) (off4 i k) 2048, readAt_line harg7 x5 (2 * (i 0).val + 0) (2048 * k.val) (off5 i k ⟨0, by decide⟩) 2048]
    rfl

/-- One trip of the eight-block loop, head two of the pair. -/
theorem trip1b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t1_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v15 x2 x5 (2 * (i 0).val + 1) (2048 * k.val) r : Fin 2048 → EReal) (fun j => rowAt x3 ((2048 * k.val) + j.val) d) (v43 (ix2 r 0)) (acc.2.2.2.1 (ix2 r 0)) (acc.2.2.2.2.1 (ix2 r 0)) (acc.2.2.2.2.2.1 (ix2 r d))
      ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).2.2.2.1 (ix2 r 0)) ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).2.2.2.2.1 (ix2 r 0)) ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 k acc).2.2.2.2.2.1 (ix2 r d)) := by
  refine upd_of ?_ ?_ ?_
  ·
    unfold tripR_k0_t1 trip_k0_t1
    dsimp only
    sl_unfold_run_names
    pointwise [k0_pay31, k0_pay32, k0_pay33, k0_pay39]
    simp only [readAt_rows harg4 x2 (2048 * k.val) (off4 i k) 2048, readAt_line harg7 x5 (2 * (i 0).val + 1) (2048 * k.val) (off5 i k ⟨1, by decide⟩) 2048]
    rfl
  ·
    unfold tripR_k0_t1 trip_k0_t1
    dsimp only
    sl_unfold_run_names
    pointwise [k0_pay31, k0_pay32, k0_pay33, k0_pay39]
    simp only [readAt_rows harg4 x2 (2048 * k.val) (off4 i k) 2048, readAt_line harg7 x5 (2 * (i 0).val + 1) (2048 * k.val) (off5 i k ⟨1, by decide⟩) 2048]
    rfl
  ·
    unfold tripR_k0_t1 trip_k0_t1
    dsimp only
    sl_unfold_run_names
    pointwise [k0_pay31, k0_pay32, k0_pay33, k0_pay39]
    simp only [readAt_rows harg4 x2 (2048 * k.val) (off4 i k) 2048, readAt_rows harg5 x3 (2048 * k.val) (off4 i k) 2048, readAt_line harg7 x5 (2 * (i 0).val + 1) (2048 * k.val) (off5 i k ⟨1, by decide⟩) 2048]
    rfl

/-- The eight-block loop keeps the running softmax of head one of the pair. -/
theorem loop1a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v33 (ix2 r 0) = (cr : EReal))
    (hx : ∀ j, score v10 x2 x5 (2 * (i 0).val + 0) r j = ((x j - cr : ℝ) : EReal))
    (h0 : Seen (diag i r ∪ Finset.range (0)) x (fun j => rowAt x3 j d) (init.1 (ix2 r 0)) (init.2.1 (ix2 r 0)) (init.2.2.1 (ix2 r d))) :
    Seen (diag i r ∪ Finset.range (2048 * ((i 1).val / 8))) x (fun j => rowAt x3 j d)
      ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).1 (ix2 r 0)) ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).2.1 (ix2 r 0)) ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).2.2.1 (ix2 r d)) := by
  have ht : (k0_t1_loop i).trips = _ := trips1 i
  have he : 2048 * ((i 1).val / 8) = (fun k => 2048 * k) (k0_t1_loop i).trips := by dsimp only; omega
  rw [he]
  refine seen_loop (B := 256 * (i 1).val) (c := cr) (fun j hj => (Finset.mem_Ico.mp hj).1) (W := 2048) (by decide) (k0_t1_loop i).trips
    (fun k => 2048 * k) (fun k => by first | omega | (dsimp only; omega)) (by first | omega | (dsimp only; omega))
    (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).1 (ix2 r 0)) (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).2.1 (ix2 r 0)) (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).2.2.1 (ix2 r d))
    (fun k => tile v10 x2 x5 (2 * (i 0).val + 0) (2048 * k) r) (fun k j => rowAt x3 (2048 * k + j.val) d)
    (fun k j => hx _) (fun k j => rfl) ?_ ?_
  · simp only [st_k0_t1_zero]
    exact h0
  · intro k hk
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init ⟨k, hk⟩
    dsimp only at hs ⊢
    rw [hs, ← hc]
    exact trip1a 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 x2 x3 x5 X_arg9 X_arg10 ⟨k, hk⟩ _ r d

/-- The eight-block loop keeps the running softmax of head two of the pair. -/
theorem loop1b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v302 : FVec Ideal S256x1 .f32) (v306 : FVec Ideal S256x1 .f32) (v339 : FVec Ideal S256x1 .f32) (v340 : FVec Ideal S256x1 .f32) (v358 : FVec Ideal S256x1 .f32) (v362 : FVec Ideal S256x1 .f32) (v370 : FVec Ideal S256x1 .f32) (v374 : FVec Ideal S256x1 .f32) (v381 : FVec Ideal S256x128 .f32) (v384 : FVec Ideal S256x128 .f32) (v391 : FVec Ideal S256x128 .f32) (v394 : FVec Ideal S256x128 .f32) (v395 : BitVec 32) (c8_i32 : BitVec 32) (v396 : BitVec 32) (v401 : BitVec 32) (c0_i32_127 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v43 (ix2 r 0) = (cr : EReal))
    (hx : ∀ j, score v15 x2 x5 (2 * (i 0).val + 1) r j = ((x j - cr : ℝ) : EReal))
    (h0 : Seen (diag i r ∪ Finset.range (0)) x (fun j => rowAt x3 j d) (init.2.2.2.1 (ix2 r 0)) (init.2.2.2.2.1 (ix2 r 0)) (init.2.2.2.2.2.1 (ix2 r d))) :
    Seen (diag i r ∪ Finset.range (2048 * ((i 1).val / 8))) x (fun j => rowAt x3 j d)
      ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).2.2.2.1 (ix2 r 0)) ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).2.2.2.2.1 (ix2 r 0)) ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init (k0_t1_loop i).trips).2.2.2.2.2.1 (ix2 r d)) := by
  have ht : (k0_t1_loop i).trips = _ := trips1 i
  have he : 2048 * ((i 1).val / 8) = (fun k => 2048 * k) (k0_t1_loop i).trips := by dsimp only; omega
  rw [he]
  refine seen_loop (B := 256 * (i 1).val) (c := cr) (fun j hj => (Finset.mem_Ico.mp hj).1) (W := 2048) (by decide) (k0_t1_loop i).trips
    (fun k => 2048 * k) (fun k => by first | omega | (dsimp only; omega)) (by first | omega | (dsimp only; omega))
    (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).2.2.2.1 (ix2 r 0)) (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).2.2.2.2.1 (ix2 r 0)) (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init k).2.2.2.2.2.1 (ix2 r d))
    (fun k => tile v15 x2 x5 (2 * (i 0).val + 1) (2048 * k) r) (fun k j => rowAt x3 (2048 * k + j.val) d)
    (fun k j => hx _) (fun k j => rfl) ?_ ?_
  · simp only [st_k0_t1_zero]
    exact h0
  · intro k hk
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 (harg4.unread x2) (harg5.unread x3) (harg7.unread x5) X_arg9 X_arg10 init ⟨k, hk⟩
    dsimp only at hs ⊢
    rw [hs, ← hc]
    exact trip1b 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v302 v306 v339 v340 v358 v362 v370 v374 v381 v384 v391 v394 v395 c8_i32 v396 v401 c0_i32_127 x2 x3 x5 X_arg9 X_arg10 ⟨k, hk⟩ _ r d

end Cert.KernelIdeal.Hand

end
-- ==== Proof.FoxLoop3.lean ====
/-
  The attention kernel's four-block loop: what one trip does to the running softmax of each of the two heads, and the loop.
-/
module
public import proofs.«01_k».proof.Proof.FoxSeen
public import Idealize.ShloMosaic.Lib.Pipeline.ValueKit
@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI Idealize.SL.Sem
open Cert.KernelIdeal Cert.KernelIdeal.Gen Cert.Proof.Online

/-- One trip of the four-block loop, head one of the pair. -/
theorem trip3a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (c0_i32_143 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t3_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v10 x2 x5 (2 * (i 0).val + 0) (2048 * ((i 1).val / 8) + 1024 * k.val) r : Fin 1024 → EReal) (fun j => rowAt x3 ((2048 * ((i 1).val / 8) + 1024 * k.val) + j.val) d) (v33 (ix2 r 0)) (acc.1 (ix2 r 0)) (acc.2.1 (ix2 r 0)) (acc.2.2.1 (ix2 r d))
      ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).1 (ix2 r 0)) ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).2.1 (ix2 r 0)) ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).2.2.1 (ix2 r d)) := by
  refine upd_of ?_ ?_ ?_
  ·
    unfold tripR_k0_t3 trip_k0_t3
    dsimp only
    sl_unfold_run_names
    pointwise [k0_pay6, k0_pay323, k0_pay324, k0_pay329]
    simp only [readAt_rows harg4 x2 (2048 * ((i 1).val / 8) + 1024 * k.val) (off8 i k) 1024, readAt_line harg7 x5 (2 * (i 0).val + 0) (2048 * ((i 1).val / 8) + 1024 * k.val) (off9 i k ⟨0, by decide⟩) 1024]
    rfl
  ·
    unfold tripR_k0_t3 trip_k0_t3
    dsimp only
    sl_unfold_run_names
    pointwise [k0_pay6, k0_pay323, k0_pay324, k0_pay329]
    simp only [readAt_rows harg4 x2 (2048 * ((i 1).val / 8) + 1024 * k.val) (off8 i k) 1024, readAt_line harg7 x5 (2 * (i 0).val + 0) (2048 * ((i 1).val / 8) + 1024 * k.val) (off9 i k ⟨0, by decide⟩) 1024]
    rfl
  ·
    unfold tripR_k0_t3 trip_k0_t3
    dsimp only
    sl_unfold_run_names
    pointwise [k0_pay6, k0_pay323, k0_pay324, k0_pay329]
    simp only [readAt_rows harg4 x2 (2048 * ((i 1).val / 8) + 1024 * k.val) (off8 i k) 1024, readAt_rows harg5 x3 (2048 * ((i 1).val / 8) + 1024 * k.val) (off8 i k) 1024, readAt_line harg7 x5 (2 * (i 0).val + 0) (2048 * ((i 1).val / 8) + 1024 * k.val) (off9 i k ⟨0, by decide⟩) 1024]
    rfl

/-- One trip of the four-block loop, head two of the pair. -/
theorem trip3b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (c0_i32_143 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t3_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v15 x2 x5 (2 * (i 0).val + 1) (2048 * ((i 1).val / 8) + 1024 * k.val) r : Fin 1024 → EReal) (fun j => rowAt x3 ((2048 * ((i 1).val / 8) + 1024 * k.val) + j.val) d) (v43 (ix2 r 0)) (acc.2.2.2.1 (ix2 r 0)) (acc.2.2.2.2.1 (ix2 r 0)) (acc.2.2.2.2.2.1 (ix2 r d))
      ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).2.2.2.1 (ix2 r 0)) ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).2.2.2.2.1 (ix2 r 0)) ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 k acc).2.2.2.2.2.1 (ix2 r d)) := by
  refine upd_of ?_ ?_ ?_
  ·
    unfold tripR_k0_t3 trip_k0_t3
    dsimp only
    sl_unfold_run_names
    pointwise [k0_pay1, k0_pay7, k0_pay323, k0_pay324, k0_pay330]
    simp only [readAt_rows harg4 x2 (2048 * ((i 1).val / 8) + 1024 * k.val) (off8 i k) 1024, readAt_line harg7 x5 (2 * (i 0).val + 1) (2048 * ((i 1).val / 8) + 1024 * k.val) (off9 i k ⟨1, by decide⟩) 1024]
    rfl
  ·
    unfold tripR_k0_t3 trip_k0_t3
    dsimp only
    sl_unfold_run_names
    pointwise [k0_pay1, k0_pay7, k0_pay323, k0_pay324, k0_pay330]
    simp only [readAt_rows harg4 x2 (2048 * ((i 1).val / 8) + 1024 * k.val) (off8 i k) 1024, readAt_line harg7 x5 (2 * (i 0).val + 1) (2048 * ((i 1).val / 8) + 1024 * k.val) (off9 i k ⟨1, by decide⟩) 1024]
    rfl
  ·
    unfold tripR_k0_t3 trip_k0_t3
    dsimp only
    sl_unfold_run_names
    pointwise [k0_pay1, k0_pay7, k0_pay323, k0_pay324, k0_pay330]
    simp only [readAt_rows harg4 x2 (2048 * ((i 1).val / 8) + 1024 * k.val) (off8 i k) 1024, readAt_rows harg5 x3 (2048 * ((i 1).val / 8) + 1024 * k.val) (off8 i k) 1024, readAt_line harg7 x5 (2 * (i 0).val + 1) (2048 * ((i 1).val / 8) + 1024 * k.val) (off9 i k ⟨1, by decide⟩) 1024]
    rfl

/-- The four-block loop keeps the running softmax of head one of the pair. -/
theorem loop3a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (c0_i32_143 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v33 (ix2 r 0) = (cr : EReal))
    (hx : ∀ j, score v10 x2 x5 (2 * (i 0).val + 0) r j = ((x j - cr : ℝ) : EReal))
    (h0 : Seen (diag i r ∪ Finset.range (2048 * ((i 1).val / 8))) x (fun j => rowAt x3 j d) (init.1 (ix2 r 0)) (init.2.1 (ix2 r 0)) (init.2.2.1 (ix2 r d))) :
    Seen (diag i r ∪ Finset.range (1024 * ((i 1).val / 4))) x (fun j => rowAt x3 j d)
      ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).1 (ix2 r 0)) ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).2.1 (ix2 r 0)) ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).2.2.1 (ix2 r d)) := by
  have ht : (k0_t3_loop i).trips = _ := trips3 i
  have he : 1024 * ((i 1).val / 4) = (fun k => 2048 * ((i 1).val / 8) + 1024 * k) (k0_t3_loop i).trips := by dsimp only; omega
  rw [he]
  refine seen_loop (B := 256 * (i 1).val) (c := cr) (fun j hj => (Finset.mem_Ico.mp hj).1) (W := 1024) (by decide) (k0_t3_loop i).trips
    (fun k => 2048 * ((i 1).val / 8) + 1024 * k) (fun k => by first | omega | (dsimp only; omega)) (by first | omega | (dsimp only; omega))
    (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).1 (ix2 r 0)) (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).2.1 (ix2 r 0)) (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).2.2.1 (ix2 r d))
    (fun k => tile v10 x2 x5 (2 * (i 0).val + 0) (2048 * ((i 1).val / 8) + 1024 * k) r) (fun k j => rowAt x3 (2048 * ((i 1).val / 8) + 1024 * k + j.val) d)
    (fun k j => hx _) (fun k j => rfl) ?_ ?_
  · simp only [st_k0_t3_zero]
    exact h0
  · intro k hk
    have hs := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init ⟨k, hk⟩
    dsimp only at hs ⊢
    rw [hs, ← hc]
    exact trip3a 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 x2 x3 x5 X_arg9 X_arg10 ⟨k, hk⟩ _ r d

/-- The four-block loop keeps the running softmax of head two of the pair. -/
theorem loop3b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v421 : BitVec 32) (c0_i32_143 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v43 (ix2 r 0) = (cr : EReal))
    (hx : ∀ j, score v15 x2 x5 (2 * (i 0).val + 1) r j = ((x j - cr : ℝ) : EReal))
    (h0 : Seen (diag i r ∪ Finset.range (2048 * ((i 1).val / 8))) x (fun j => rowAt x3 j d) (init.2.2.2.1 (ix2 r 0)) (init.2.2.2.2.1 (ix2 r 0)) (init.2.2.2.2.2.1 (ix2 r d))) :
    Seen (diag i r ∪ Finset.range (1024 * ((i 1).val / 4))) x (fun j => rowAt x3 j d)
      ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).2.2.2.1 (ix2 r 0)) ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).2.2.2.2.1 (ix2 r 0)) ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init (k0_t3_loop i).trips).2.2.2.2.2.1 (ix2 r d)) := by
  have ht : (k0_t3_loop i).trips = _ := trips3 i
  have he : 1024 * ((i 1).val / 4) = (fun k => 2048 * ((i 1).val / 8) + 1024 * k) (k0_t3_loop i).trips := by dsimp only; omega
  rw [he]
  refine seen_loop (B := 256 * (i 1).val) (c := cr) (fun j hj => (Finset.mem_Ico.mp hj).1) (W := 1024) (by decide) (k0_t3_loop i).trips
    (fun k => 2048 * ((i 1).val / 8) + 1024 * k) (fun k => by first | omega | (dsimp only; omega)) (by first | omega | (dsimp only; omega))
    (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).2.2.2.1 (ix2 r 0)) (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).2.2.2.2.1 (ix2 r 0)) (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init k).2.2.2.2.2.1 (ix2 r d))
    (fun k => tile v15 x2 x5 (2 * (i 0).val + 1) (2048 * ((i 1).val / 8) + 1024 * k) r) (fun k j => rowAt x3 (2048 * ((i 1).val / 8) + 1024 * k + j.val) d)
    (fun k j => hx _) (fun k j => rfl) ?_ ?_
  · simp only [st_k0_t3_zero]
    exact h0
  · intro k hk
    have hs := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 (harg4.unread x2) (harg5.unread x3) (harg7.unread x5) X_arg9 X_arg10 init ⟨k, hk⟩
    dsimp only at hs ⊢
    rw [hs, ← hc]
    exact trip3b 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v421 c0_i32_143 x2 x3 x5 X_arg9 X_arg10 ⟨k, hk⟩ _ r d

end Cert.KernelIdeal.Hand

end
-- ==== Proof.FoxLoop5.lean ====
/-
  The attention kernel's one-block loop: what one trip does to the running softmax of each of the two heads, and the loop.
-/
module
public import proofs.«01_k».proof.Proof.FoxSeen
public import Idealize.ShloMosaic.Lib.Pipeline.ValueKit
@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI Idealize.SL.Sem
open Cert.KernelIdeal Cert.KernelIdeal.Gen Cert.Proof.Online

/-- One trip of the one-block loop, head one of the pair. -/
theorem trip5a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v448 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t5_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v10 x2 x5 (2 * (i 0).val + 0) (1024 * ((i 1).val / 4) + 256 * k.val) r : Fin 256 → EReal) (fun j => rowAt x3 ((1024 * ((i 1).val / 4) + 256 * k.val) + j.val) d) (v33 (ix2 r 0)) (acc.1 (ix2 r 0)) (acc.2.1 (ix2 r 0)) (acc.2.2.1 (ix2 r d))
      ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).1 (ix2 r 0)) ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).2.1 (ix2 r 0)) ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).2.2.1 (ix2 r d)) := by
  refine upd_of ?_ ?_ ?_
  ·
    unfold tripR_k0_t5 trip_k0_t5
    dsimp only
    sl_unfold_run_names
    pointwise [k0_pay20, k0_pay463, k0_pay464, k0_pay469, k0_pay471, k0_pay489, k0_pay491]
    simp only [readAt_rows harg4 x2 (1024 * ((i 1).val / 4) + 256 * k.val) (off12 i k) 256, readAt_line harg7 x5 (2 * (i 0).val + 0) (1024 * ((i 1).val / 4) + 256 * k.val) (off13 i k ⟨0, by decide⟩) 256]
    rfl
  ·
    unfold tripR_k0_t5 trip_k0_t5
    dsimp only
    sl_unfold_run_names
    pointwise [k0_pay20, k0_pay463, k0_pay464, k0_pay469, k0_pay471, k0_pay489, k0_pay491]
    simp only [readAt_rows harg4 x2 (1024 * ((i 1).val / 4) + 256 * k.val) (off12 i k) 256, readAt_line harg7 x5 (2 * (i 0).val + 0) (1024 * ((i 1).val / 4) + 256 * k.val) (off13 i k ⟨0, by decide⟩) 256]
    rfl
  ·
    unfold tripR_k0_t5 trip_k0_t5
    dsimp only
    sl_unfold_run_names
    pointwise [k0_pay20, k0_pay463, k0_pay464, k0_pay469, k0_pay471, k0_pay489, k0_pay491]
    simp only [readAt_rows harg4 x2 (1024 * ((i 1).val / 4) + 256 * k.val) (off12 i k) 256, readAt_rows harg5 x3 (1024 * ((i 1).val / 4) + 256 * k.val) (off12 i k) 256, readAt_line harg7 x5 (2 * (i 0).val + 0) (1024 * ((i 1).val / 4) + 256 * k.val) (off13 i k ⟨0, by decide⟩) 256]
    rfl

/-- One trip of the one-block loop, head two of the pair. -/
theorem trip5b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v448 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (k : Fin (k0_t5_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) :
    Upd (tile v15 x2 x5 (2 * (i 0).val + 1) (1024 * ((i 1).val / 4) + 256 * k.val) r : Fin 256 → EReal) (fun j => rowAt x3 ((1024 * ((i 1).val / 4) + 256 * k.val) + j.val) d) (v43 (ix2 r 0)) (acc.2.2.2.1 (ix2 r 0)) (acc.2.2.2.2.1 (ix2 r 0)) (acc.2.2.2.2.2.1 (ix2 r d))
      ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).2.2.2.1 (ix2 r 0)) ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).2.2.2.2.1 (ix2 r 0)) ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 k acc).2.2.2.2.2.1 (ix2 r d)) := by
  refine upd_of ?_ ?_ ?_
  ·
    unfold tripR_k0_t5 trip_k0_t5
    dsimp only
    sl_unfold_run_names
    pointwise [k0_pay21, k0_pay463, k0_pay464, k0_pay470, k0_pay490, k0_pay492]
    simp only [readAt_rows harg4 x2 (1024 * ((i 1).val / 4) + 256 * k.val) (off12 i k) 256, readAt_line harg7 x5 (2 * (i 0).val + 1) (1024 * ((i 1).val / 4) + 256 * k.val) (off13 i k ⟨1, by decide⟩) 256]
    rfl
  ·
    unfold tripR_k0_t5 trip_k0_t5
    dsimp only
    sl_unfold_run_names
    pointwise [k0_pay21, k0_pay463, k0_pay464, k0_pay470, k0_pay490, k0_pay492]
    simp only [readAt_rows harg4 x2 (1024 * ((i 1).val / 4) + 256 * k.val) (off12 i k) 256, readAt_line harg7 x5 (2 * (i 0).val + 1) (1024 * ((i 1).val / 4) + 256 * k.val) (off13 i k ⟨1, by decide⟩) 256]
    rfl
  ·
    unfold tripR_k0_t5 trip_k0_t5
    dsimp only
    sl_unfold_run_names
    pointwise [k0_pay21, k0_pay463, k0_pay464, k0_pay470, k0_pay490, k0_pay492]
    simp only [readAt_rows harg4 x2 (1024 * ((i 1).val / 4) + 256 * k.val) (off12 i k) 256, readAt_rows harg5 x3 (1024 * ((i 1).val / 4) + 256 * k.val) (off12 i k) 256, readAt_line harg7 x5 (2 * (i 0).val + 1) (1024 * ((i 1).val / 4) + 256 * k.val) (off13 i k ⟨1, by decide⟩) 256]
    rfl

/-- The one-block loop keeps the running softmax of head one of the pair. -/
theorem loop5a (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v448 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v33 (ix2 r 0) = (cr : EReal))
    (hx : ∀ j, score v10 x2 x5 (2 * (i 0).val + 0) r j = ((x j - cr : ℝ) : EReal))
    (h0 : Seen (diag i r ∪ Finset.range (1024 * ((i 1).val / 4))) x (fun j => rowAt x3 j d) (init.1 (ix2 r 0)) (init.2.1 (ix2 r 0)) (init.2.2.1 (ix2 r d))) :
    Seen (diag i r ∪ Finset.range (256 * (i 1).val)) x (fun j => rowAt x3 j d)
      ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).1 (ix2 r 0)) ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).2.1 (ix2 r 0)) ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).2.2.1 (ix2 r d)) := by
  have ht : (k0_t5_loop i).trips = _ := trips5 i
  have he : 256 * (i 1).val = (fun k => 1024 * ((i 1).val / 4) + 256 * k) (k0_t5_loop i).trips := by dsimp only; omega
  rw [he]
  refine seen_loop (B := 256 * (i 1).val) (c := cr) (fun j hj => (Finset.mem_Ico.mp hj).1) (W := 256) (by decide) (k0_t5_loop i).trips
    (fun k => 1024 * ((i 1).val / 4) + 256 * k) (fun k => by first | omega | (dsimp only; omega)) (by first | omega | (dsimp only; omega))
    (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).1 (ix2 r 0)) (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).2.1 (ix2 r 0)) (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).2.2.1 (ix2 r d))
    (fun k => tile v10 x2 x5 (2 * (i 0).val + 0) (1024 * ((i 1).val / 4) + 256 * k) r) (fun k j => rowAt x3 (1024 * ((i 1).val / 4) + 256 * k + j.val) d)
    (fun k j => hx _) (fun k j => rfl) ?_ ?_
  · simp only [st_k0_t5_zero]
    exact h0
  · intro k hk
    have hs := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init ⟨k, hk⟩
    dsimp only at hs ⊢
    rw [hs, ← hc]
    exact trip5a 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 x2 x3 x5 X_arg9 X_arg10 ⟨k, hk⟩ _ r d

/-- The one-block loop keeps the running softmax of head two of the pair. -/
theorem loop5b (𝒱 : Variants) (c : Dev nD) (bd : Option 𝒱.V) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole) (arg0 : BitVec 32) (arg1 : BitVec 32) (v10 : FVec Ideal S256x128 .bf16) (v15 : FVec Ideal S256x128 .bf16) (v33 : FVec Ideal S256x1 .f32) (v43 : FVec Ideal S256x1 .f32) (v60 : FVec Ideal S256x128 .bf16) (v65 : FVec Ideal S256x128 .bf16) (v75 : Ideal .f32) (v80 : Ideal .f32) (v82 : FVec Ideal S256x256 .f32) (v84 : FVec Ideal S256x256 .f32) (v86 : IVec S1x64 32) (v170 : FVec Ideal S256x64 .f32) (v254 : FVec Ideal S256x64 .f32) (v448 : BitVec 32) (x2 : Vec Ideal S16384x128 .bf16) (x3 : Vec Ideal S16384x128 .bf16) (x5 : Vec Ideal S8x16384 .f32) (X_arg9 : BufTy.Contents (Elt Ideal) arg9.view.ty) (X_arg10 : BufTy.Contents (Elt Ideal) arg10.view.ty) (init : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) (r : Fin 256) (d : Fin 128) {x : ℕ → ℝ} {cr : ℝ} (hc : v43 (ix2 r 0) = (cr : EReal))
    (hx : ∀ j, score v15 x2 x5 (2 * (i 0).val + 1) r j = ((x j - cr : ℝ) : EReal))
    (h0 : Seen (diag i r ∪ Finset.range (1024 * ((i 1).val / 4))) x (fun j => rowAt x3 j d) (init.2.2.2.1 (ix2 r 0)) (init.2.2.2.2.1 (ix2 r 0)) (init.2.2.2.2.2.1 (ix2 r d))) :
    Seen (diag i r ∪ Finset.range (256 * (i 1).val)) x (fun j => rowAt x3 j d)
      ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).2.2.2.1 (ix2 r 0)) ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).2.2.2.2.1 (ix2 r 0)) ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init (k0_t5_loop i).trips).2.2.2.2.2.1 (ix2 r d)) := by
  have ht : (k0_t5_loop i).trips = _ := trips5 i
  have he : 256 * (i 1).val = (fun k => 1024 * ((i 1).val / 4) + 256 * k) (k0_t5_loop i).trips := by dsimp only; omega
  rw [he]
  refine seen_loop (B := 256 * (i 1).val) (c := cr) (fun j hj => (Finset.mem_Ico.mp hj).1) (W := 256) (by decide) (k0_t5_loop i).trips
    (fun k => 1024 * ((i 1).val / 4) + 256 * k) (fun k => by first | omega | (dsimp only; omega)) (by first | omega | (dsimp only; omega))
    (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).2.2.2.1 (ix2 r 0)) (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).2.2.2.2.1 (ix2 r 0)) (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init k).2.2.2.2.2.1 (ix2 r d))
    (fun k => tile v15 x2 x5 (2 * (i 0).val + 1) (1024 * ((i 1).val / 4) + 256 * k) r) (fun k j => rowAt x3 (1024 * ((i 1).val / 4) + 256 * k + j.val) d)
    (fun k j => hx _) (fun k j => rfl) ?_ ?_
  · simp only [st_k0_t5_zero]
    exact h0
  · intro k hk
    have hs := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 (harg4.unread x2) (harg5.unread x3) (harg7.unread x5) X_arg9 X_arg10 init ⟨k, hk⟩
    dsimp only at hs ⊢
    rw [hs, ← hc]
    exact trip5b 𝒱 c bd i arg2 harg2 arg3 harg3 arg4 harg4 arg5 harg5 arg6 harg6 arg7 harg7 arg8 harg8 arg9 harg9 arg10 harg10 arg11 harg11 arg12 harg12 arg13 harg13 arg0 arg1 v10 v15 v33 v43 v60 v65 v75 v80 v82 v84 v86 v170 v254 v448 x2 x3 x5 X_arg9 X_arg10 ⟨k, hk⟩ _ r d

end Cert.KernelIdeal.Hand

end
-- ==== Proof.FoxBlock.lean ====
/-
  A block of the attention kernel's result: the softmax average over the keys up to the row, for each of the two heads.
-/
module

public import proofs.«01_k».proof.Proof.FoxDiag
public import proofs.«01_k».proof.Proof.FoxZero
public import proofs.«01_k».proof.Proof.FoxLoop1
public import proofs.«01_k».proof.Proof.FoxLoop3
public import proofs.«01_k».proof.Proof.FoxLoop5

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Proof.Online

/-- The store's offsets are zero. -/
theorem off_zero : (![0, 0] : Fin S256x128.rank → ℕ) = fun _ => 0 := by
  funext a
  fin_cases a <;> rfl

/-- A result and the running softmax it is the quotient of. -/
theorem block_of {S : Finset ℕ} {x : ℕ → ℝ} {v : ℕ → EReal} {o m l a : EReal} (ho : o = Idealize.ShloMosaic.Ideal.div a l)
    (hs : Seen S x v m l a) : ∃ m l a, Seen S x v m l a ∧ o = Idealize.ShloMosaic.Ideal.div a l :=
  ⟨m, l, a, hs, ho⟩

set_option maxHeartbeats 1000000 in
/-- A row of the block on the lanes of head one of the pair: the quotient of the running softmax over the keys up to the row. -/
theorem block_a (c : Dev nD) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole)
    (x0 : Vec Ideal S8 .f32) (x1 : Vec Ideal S256x128 .f32) (x2 : Vec Ideal S16384x128 .bf16) (x3 : Vec Ideal S16384x128 .bf16) (x4 : Vec Ideal S256x8 .f32) (x5 : Vec Ideal S8x16384 .f32) (x6 : Vec Ideal S256x128 .f32) (x7 : Vec Ideal S16384x128 .bf16) (x8 : Vec Ideal S16384x128 .bf16) (x9 : Vec Ideal S64x128 .f32)
    (r : Fin 256) (d : Fin 128) (hd : d.val < 64) {x : ℕ → ℝ} {cr : ℝ}
    (hc : kernelRun0_A.sl.r_2 (F := Ideal) c i arg6 harg6 x4 (ix2 r 0) = (cr : EReal))
    (hx : ∀ j, score (kernelRun0_A.sl.r (F := Ideal) c arg3 harg3 x1) x2 x5 (2 * (i 0).val + 0) r j = ((x j - cr : ℝ) : EReal)) :
    ∃ m l a, Seen (diag i r ∪ Finset.range (256 * (i 1).val)) x (fun j => rowAt x3 j d) m l a
      ∧ out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r d) = Idealize.ShloMosaic.Ideal.div a l := by
  refine block_of (m := ?m) (l := ?l) (a := ?a) ?out ?seen
  case out =>
    unfold out0_A_10
    refine (congrFun (View.read_writes_junk_eq_canon _ _) _).trans ?_
    refine (congrFun (View.canon_cons_unit_zero (Cert.KernelIdeal.Hand.off_zero) _ _ _) _).trans ?_
    exact block_lo _ _ _ _ r d hd
  rotate_left 3
  refine loop6a (r := r) (d := d) (h0 := ?_) ..
  dsimp only
  refine loop5a (r := r) (d := d) (hc := hc) (hx := hx) (h0 := ?_) ..
  dsimp only
  refine loop4a (r := r) (d := d) (h0 := ?_) ..
  dsimp only
  refine loop3a (r := r) (d := d) (hc := hc) (hx := hx) (h0 := ?_) ..
  dsimp only
  refine loop2a (r := r) (d := d) (h0 := ?_) ..
  dsimp only
  refine loop1a (r := r) (d := d) (hc := hc) (hx := hx) (h0 := ?_) ..
  rw [Finset.range_zero, Finset.union_empty]
  dsimp only
  delta kernelRun0_A.sl.r_42 kernelRun0_A.sl.r_38 kernelRun0_A.sl.r_36 kernelRun0_A.sl.r_30 kernelRun0_A.sl.r_28 kernelRun0_A.sl.r_26 kernelRun0_A.sl.r_21 kernelRun0_A.sl.r_22
  refine seen_diag (hc := hc) (hx := ?_) (hV := ?_) (h := diag_a (r := r) (d := d) ..)
  · intro j
    rw [← hx, readAt_line harg7 x5 (2 * (i 0).val + 0) (256 * (i 1).val) (Gen.k0_off3_eq i ⟨0, by decide⟩) 256 j]
    simp only [readAt_rows harg4 x2 (256 * (i 1).val) (Gen.k0_off2_eq i) 256]
    rfl
  · intro j
    exact readAt_rows harg5 x3 _ (Gen.k0_off2_eq i) 256 j d

set_option maxHeartbeats 1000000 in
/-- A row of the block on the lanes of head two of the pair: the quotient of the running softmax over the keys up to the row. -/
theorem block_b (c : Dev nD) (i : grid0.Coords) (arg2 : Memref sig .tc .smem S8 .f32) (harg2 : arg2.IsWhole) (arg3 : Memref sig .tc .vmem S256x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x8 .f32) (harg6 : arg6.IsWhole) (arg7 : Memref sig .tc .vmem S8x16384 .f32) (harg7 : arg7.IsWhole) (arg8 : Memref sig .tc .vmem S256x128 .f32) (harg8 : arg8.IsWhole) (arg9 : Memref sig .tc .vmem S16384x128 .bf16) (harg9 : arg9.IsWhole) (arg10 : Memref sig .tc .vmem S16384x128 .bf16) (harg10 : arg10.IsWhole) (arg11 : Memref sig .tc .vmem S64x128 .f32) (harg11 : arg11.IsWhole) (arg12 : Memref sig .tc .vmem S256x128 .f32) (harg12 : arg12.IsWhole) (arg13 : Memref sig .tc .vmem S256x128 .f32) (harg13 : arg13.IsWhole)
    (x0 : Vec Ideal S8 .f32) (x1 : Vec Ideal S256x128 .f32) (x2 : Vec Ideal S16384x128 .bf16) (x3 : Vec Ideal S16384x128 .bf16) (x4 : Vec Ideal S256x8 .f32) (x5 : Vec Ideal S8x16384 .f32) (x6 : Vec Ideal S256x128 .f32) (x7 : Vec Ideal S16384x128 .bf16) (x8 : Vec Ideal S16384x128 .bf16) (x9 : Vec Ideal S64x128 .f32)
    (r : Fin 256) (d : Fin 128) (hd : ¬ d.val < 64) {x : ℕ → ℝ} {cr : ℝ}
    (hc : kernelRun0_A.sl.r_6 (F := Ideal) c i arg6 harg6 x4 (ix2 r 0) = (cr : EReal))
    (hx : ∀ j, score (kernelRun0_A.sl.r_1 (F := Ideal) c arg3 harg3 x1) x2 x5 (2 * (i 0).val + 1) r j = ((x j - cr : ℝ) : EReal)) :
    ∃ m l a, Seen (diag i r ∪ Finset.range (256 * (i 1).val)) x (fun j => rowAt x3 j d) m l a
      ∧ out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r d) = Idealize.ShloMosaic.Ideal.div a l := by
  refine block_of (m := ?m) (l := ?l) (a := ?a) ?out ?seen
  case out =>
    unfold out0_A_10
    refine (congrFun (View.read_writes_junk_eq_canon _ _) _).trans ?_
    refine (congrFun (View.canon_cons_unit_zero (Cert.KernelIdeal.Hand.off_zero) _ _ _) _).trans ?_
    exact block_hi _ _ _ _ r d hd
  rotate_left 3
  refine loop6b (r := r) (d := d) (h0 := ?_) ..
  dsimp only
  refine loop5b (r := r) (d := d) (hc := hc) (hx := hx) (h0 := ?_) ..
  dsimp only
  refine loop4b (r := r) (d := d) (h0 := ?_) ..
  dsimp only
  refine loop3b (r := r) (d := d) (hc := hc) (hx := hx) (h0 := ?_) ..
  dsimp only
  refine loop2b (r := r) (d := d) (h0 := ?_) ..
  dsimp only
  refine loop1b (r := r) (d := d) (hc := hc) (hx := hx) (h0 := ?_) ..
  rw [Finset.range_zero, Finset.union_empty]
  dsimp only
  delta kernelRun0_A.sl.r_43 kernelRun0_A.sl.r_39 kernelRun0_A.sl.r_37 kernelRun0_A.sl.r_31 kernelRun0_A.sl.r_29 kernelRun0_A.sl.r_27 kernelRun0_A.sl.r_21 kernelRun0_A.sl.r_22
  refine seen_diag (hc := hc) (hx := ?_) (hV := ?_) (h := diag_b (r := r) (d := d) ..)
  · intro j
    rw [← hx, readAt_line harg7 x5 (2 * (i 0).val + 1) (256 * (i 1).val) (Gen.k0_off3_eq i ⟨1, by decide⟩) 256 j]
    simp only [readAt_rows harg4 x2 (256 * (i 1).val) (Gen.k0_off2_eq i) 256]
    rfl
  · intro j
    exact readAt_rows harg5 x3 _ (Gen.k0_off2_eq i) 256 j d

end Cert.KernelIdeal.Hand

end
-- ==== Proof.FoxWord.lean ====
/-
  The attention kernel's scaled queries and its query's gate sum to base two, by row and lane, for each of the two heads.
-/
module

public import proofs.«01_k».proof.Proof.FoxSeen
public import proofs.«01_k».proof.Proof.FoxBlock
public import proofs.«01_k».proof.Proof.FoxDiag
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Proof.Online

/-- The query scale's named value. -/
theorem qscale_eq : (Named.named (F := Ideal) κ "qscale" 0x3E38AA3B#32 : Ideal .f32) = (((1 / 8) * (Real.log 2)⁻¹ : ℝ) : EReal) := rfl

/-- A load of the whole query block reads it. -/
theorem readAt_q {m : Memref sig .tc .vmem S256x128 .f32} (h : m.IsWhole) (x : Vec Ideal S256x128 .f32) {inb} :
    View.readAt (Elt Ideal) m.view (Rect.unit (s := S256x128) ![0, 0] S256x128.size inb).toLoadRect (h.unread x) = x := by
  funext y
  rw [h.readAt_unread]
  congr 1
  funext a
  fin_cases a
  · exact Fin.ext (by show 0 + 1 * (y 0).val = (y 0).val; omega)
  · exact Fin.ext (by show 0 + 1 * (y 1).val = (y 1).val; omega)

/-- A load of the whole block of gate sums reads it. -/
theorem readAt_c {m : Memref sig .tc .vmem S256x8 .f32} (h : m.IsWhole) (x : Vec Ideal S256x8 .f32) {inb} :
    View.readAt (Elt Ideal) m.view (Rect.unit (s := S256x8) ![0, 0] S256x8.size inb).toLoadRect (h.unread x) = x := by
  funext y
  rw [h.readAt_unread]
  congr 1
  funext a
  fin_cases a
  · exact Fin.ext (by show 0 + 1 * (y 0).val = (y 0).val; omega)
  · exact Fin.ext (by show 0 + 1 * (y 1).val = (y 1).val; omega)

/-- Selecting a head's gate sum among the eight. -/
theorem sel_head (h : Fin 2) (p : Fin 4) (e : Fin 8) (a b : EReal) :
    Scalar.select (IntOp.cmpi CmpIPredicate.eq (BitVec.ofNat 32 e.val) (BitVec.ofNat 32 (2 * p.val + h.val))) a b
      = if e.val = 2 * p.val + h.val then a else b := by
  have hh : ∀ (h : Fin 2) (p : Fin 4) (e : Fin 8), IntOp.cmpi CmpIPredicate.eq (BitVec.ofNat 32 e.val) (BitVec.ofNat 32 (2 * p.val + h.val))
      = if e.val = 2 * p.val + h.val then 1#1 else 0#1 := by decide +kernel
  rw [hh]
  split <;> rfl

/-- The scaled query on the first head's lanes. -/
theorem q_a (c : Dev nD) (arg3 : Memref sig .tc .vmem S256x128 .f32) (harg3 : arg3.IsWhole) (x1 : Vec Ideal S256x128 .f32) (r : Fin 256)
    (l : Fin 128) : kernelRun0_A.sl.r (F := Ideal) c arg3 harg3 x1 (ix2 r l)
      = if l.val < 64 then x1 (ix2 r l) * (((1 / 8) * (Real.log 2)⁻¹ : ℝ) : EReal) else 0 := by
  delta kernelRun0_A.sl.r
  rw [readAt_q]
  pointwise [k0_pay533, k0_pay531, k0_pay532]
  exact sel_lane l _ _

/-- The scaled query on the second head's lanes. -/
theorem q_b (c : Dev nD) (arg3 : Memref sig .tc .vmem S256x128 .f32) (harg3 : arg3.IsWhole) (x1 : Vec Ideal S256x128 .f32) (r : Fin 256)
    (l : Fin 128) : kernelRun0_A.sl.r_1 (F := Ideal) c arg3 harg3 x1 (ix2 r l)
      = if l.val < 64 then 0 else x1 (ix2 r l) * (((1 / 8) * (Real.log 2)⁻¹ : ℝ) : EReal) := by
  delta kernelRun0_A.sl.r_1
  rw [readAt_q]
  pointwise [k0_pay534, k0_pay531, k0_pay532]
  exact sel_lane l _ _

/-- The query's gate sum to base two, the first head of the pair. -/
theorem c_a (c : Dev nD) (i : grid0.Coords) (arg6 : Memref sig .tc .vmem S256x8 .f32) (harg6 : arg6.IsWhole) (x4 : Vec Ideal S256x8 .f32)
    (r : Fin 256) (e : Fin 8) (he : e.val = 2 * (i 0).val + 0) :
    kernelRun0_A.sl.r_2 (F := Ideal) c i arg6 harg6 x4 (ix2 r 0) = x4 (ix2 r e) * (((Real.log 2)⁻¹ : ℝ) : EReal) := by
  delta kernelRun0_A.sl.r_2
  rw [readAt_c]
  pointwise [k0_pay537, k0_pay536]
  have hb : Scalar.addi (Scalar.muli 2#32 (BitVec.ofNat 32 (i 0).val)) 0#32 = BitVec.ofNat 32 (2 * (i 0).val + (0 : Fin 2).val) :=
    (by decide +kernel : ∀ p : Fin 4, Scalar.addi (Scalar.muli 2#32 (BitVec.ofNat 32 p.val)) 0#32 = BitVec.ofNat 32 (2 * p.val + (0 : Fin 2).val)) (i 0)
  simp only [hb]
  simp only [sel_head 0 (i 0)]
  refine (Finset.sum_eq_single e (fun f _ hf => if_neg fun h => hf (Fin.ext (h.trans he.symm))) (fun h => absurd (Finset.mem_univ _) h)).trans ?_
  exact if_pos he

/-- The query's gate sum to base two, the second head of the pair. -/
theorem c_b (c : Dev nD) (i : grid0.Coords) (arg6 : Memref sig .tc .vmem S256x8 .f32) (harg6 : arg6.IsWhole) (x4 : Vec Ideal S256x8 .f32)
    (r : Fin 256) (e : Fin 8) (he : e.val = 2 * (i 0).val + 1) :
    kernelRun0_A.sl.r_6 (F := Ideal) c i arg6 harg6 x4 (ix2 r 0) = x4 (ix2 r e) * (((Real.log 2)⁻¹ : ℝ) : EReal) := by
  delta kernelRun0_A.sl.r_6 kernelRun0_A.sl.r_3
  rw [readAt_c]
  pointwise [k0_pay539, k0_pay538, k0_pay536]
  have hb : Scalar.addi (Scalar.muli 2#32 (BitVec.ofNat 32 (i 0).val)) 1#32 = BitVec.ofNat 32 (2 * (i 0).val + (1 : Fin 2).val) :=
    (by decide +kernel : ∀ p : Fin 4, Scalar.addi (Scalar.muli 2#32 (BitVec.ofNat 32 p.val)) 1#32 = BitVec.ofNat 32 (2 * p.val + (1 : Fin 2).val)) (i 0)
  simp only [hb]
  simp only [sel_head 1 (i 0)]
  refine (Finset.sum_eq_single e (fun f _ hf => if_neg fun h => hf (Fin.ext (h.trans he.symm))) (fun h => absurd (Finset.mem_univ _) h)).trans ?_
  exact if_pos he

/-- A sum over the lanes that keeps the first head's. -/
theorem sum_lo (f : Fin 128 → EReal) : ∑ l : Fin 128, (if l.val < 64 then f l else 0) = ∑ e : Fin 64, f ⟨e.val, by omega⟩ := by
  refine (Fin.sum_univ_add (a := 64) (b := 64) (fun l : Fin (64 + 64) => if l.val < 64 then f l else 0)).trans ?_
  rw [Finset.sum_eq_zero (s := Finset.univ) (f := fun e : Fin 64 => if (Fin.natAdd 64 e).val < 64 then f (Fin.natAdd 64 e) else 0)
    (fun e _ => if_neg (by simp only [Fin.val_natAdd]; omega)), add_zero]
  exact Finset.sum_congr rfl fun e _ => if_pos e.isLt

/-- A sum over the lanes that keeps the second head's. -/
theorem sum_hi (f : Fin 128 → EReal) : ∑ l : Fin 128, (if l.val < 64 then 0 else f l) = ∑ e : Fin 64, f ⟨64 + e.val, by omega⟩ := by
  refine (Fin.sum_univ_add (a := 64) (b := 64) (fun l : Fin (64 + 64) => if l.val < 64 then 0 else f l)).trans ?_
  rw [Finset.sum_eq_zero (s := Finset.univ) (f := fun e : Fin 64 => if (Fin.castAdd 64 e).val < 64 then (0 : EReal) else f (Fin.castAdd 64 e))
    (fun e _ => if_pos e.isLt), zero_add]
  exact Finset.sum_congr rfl fun e _ => if_neg (by simp only [Fin.val_natAdd]; omega)

/-- The scores' real value: what the scaled product less the key's gate sum is. -/
def xval (q : Fin 64 → ℝ) (k : Fin 16384 → Fin 64 → ℝ) (cq : ℝ) (ck : Fin 16384 → ℝ) (j : ℕ) : ℝ :=
  if h : j < 16384 then ((∑ e, q e * k ⟨j, h⟩ e) * (1 / 8) + cq - ck ⟨j, h⟩) * (Real.log 2)⁻¹ else cq * (Real.log 2)⁻¹

/-- A real sum of scaled products is its real value. -/
theorem sum_real (q k : Fin 64 → ℝ) (cq ck g : ℝ) :
    (∑ e, ((q e : EReal) * (((1 / 8) * g : ℝ) : EReal)) * (k e : EReal)) - ((ck * g : ℝ) : EReal)
      = ((((∑ e, q e * k e) * (1 / 8) + cq - ck) * g - cq * g : ℝ) : EReal) := by
  simp only [← EReal.coe_mul]
  rw [← coe_sum, ← EReal.coe_sub]
  congr 1
  rw [show ∀ S : ℝ, (S * (1 / 8) + cq - ck) * g - cq * g = S * ((1 / 8) * g) - ck * g from fun S => by ring, Finset.sum_mul]
  congr 1
  exact Finset.sum_congr rfl fun e _ => by ring

/-- The score from finite queries, keys and gate sums, on the lanes of head one. -/
theorem score_a (c : Dev nD) (arg3 : Memref sig .tc .vmem S256x128 .f32) (harg3 : arg3.IsWhole) (x1 : Vec Ideal S256x128 .f32)
    (x2 : Vec Ideal S16384x128 .bf16) (x5 : Vec Ideal S8x16384 .f32) (p : ℕ) (e : Fin 8) (he : e.val = p) (r : Fin 256)
    (q : Fin 64 → ℝ) (k : Fin 16384 → Fin 64 → ℝ) (cq : ℝ) (ck : Fin 16384 → ℝ)
    (hq : ∀ d : Fin 64, x1 (ix2 r ⟨d.val, by omega⟩) = (q d : EReal))
    (hk : ∀ j, ∀ d : Fin 64, x2 (ix2 j ⟨d.val, by omega⟩) = (k j d : EReal))
    (hc : ∀ j, x5 (ix2 e j) = (ck j : EReal)) (j : ℕ) :
    score (kernelRun0_A.sl.r (F := Ideal) c arg3 harg3 x1) x2 x5 p r j
      = ((xval q k cq ck j - cq * (Real.log 2)⁻¹ : ℝ) : EReal) := by
  subst he
  unfold score xval rowAt lineAt
  simp only [q_a, ite_mul, zero_mul]
  rw [sum_lo]
  split
  · rw [dif_pos ⟨e.isLt, by assumption⟩]
    simp only [hq, hk]
    rw [hc, ← EReal.coe_mul]
    exact sum_real _ _ _ _ _
  · rw [dif_neg (by rintro ⟨_, h⟩; contradiction), zero_mul, sub_self]
    simp

/-- The score from finite queries, keys and gate sums, on the lanes of head two. -/
theorem score_b (c : Dev nD) (arg3 : Memref sig .tc .vmem S256x128 .f32) (harg3 : arg3.IsWhole) (x1 : Vec Ideal S256x128 .f32)
    (x2 : Vec Ideal S16384x128 .bf16) (x5 : Vec Ideal S8x16384 .f32) (p : ℕ) (e : Fin 8) (he : e.val = p) (r : Fin 256)
    (q : Fin 64 → ℝ) (k : Fin 16384 → Fin 64 → ℝ) (cq : ℝ) (ck : Fin 16384 → ℝ)
    (hq : ∀ d : Fin 64, x1 (ix2 r ⟨64 + d.val, by omega⟩) = (q d : EReal))
    (hk : ∀ j, ∀ d : Fin 64, x2 (ix2 j ⟨64 + d.val, by omega⟩) = (k j d : EReal))
    (hc : ∀ j, x5 (ix2 e j) = (ck j : EReal)) (j : ℕ) :
    score (kernelRun0_A.sl.r_1 (F := Ideal) c arg3 harg3 x1) x2 x5 p r j
      = ((xval q k cq ck j - cq * (Real.log 2)⁻¹ : ℝ) : EReal) := by
  subst he
  unfold score xval rowAt lineAt
  simp only [q_b, ite_mul, zero_mul]
  rw [sum_hi]
  split
  · rw [dif_pos ⟨e.isLt, by assumption⟩]
    simp only [hq, hk]
    rw [hc, ← EReal.coe_mul]
    exact sum_real _ _ _ _ _
  · rw [dif_neg (by rintro ⟨_, h⟩; contradiction), zero_mul, sub_self]
    simp

/-- The keys of the block up to the query and the keys before the block are the keys up to the query. -/
theorem diag_union (i : grid0.Coords) (r : Fin 256) :
    diag i r ∪ Finset.range (256 * (i 1).val) = Finset.range (256 * (i 1).val + r.val + 1) := by
  unfold diag
  ext j
  simp only [Finset.mem_union, Finset.mem_Ico, Finset.mem_range]
  omega

end Cert.KernelIdeal.Hand

end
-- ==== Proof.FoxHost.lean ====
/-
  What the windows of the forgetting attention hold: the arguments' blocks.
-/
module

public import proofs.«01_k».proof.Proof.Gen.KernelIdeal.Value
public import proofs.«01_k».proof.Proof.FoxWord
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen

/-- The windows' blocks over the grid. -/
theorem idx : ∀ t : Fin cfg0.N, win0_1.index t = ![t.val % 64, t.val / 64] ∧ win0_2.index t = ![0, t.val / 64]
    ∧ win0_3.index t = ![0, t.val / 64] ∧ win0_4.index t = ![t.val % 64, 0] ∧ win0_5.index t = ![0, 0]
    ∧ win0_10.index t = ![t.val % 64, t.val / 64] :=
  (by decide +kernel : ∀ t : Fin grid0.N, _)

/-- The grid's coordinates. -/
theorem coords_val : ∀ t : Fin cfg0.N, (grid0.coords t 0).val = t.val / 64 ∧ (grid0.coords t 1).val = t.val % 64 :=
  (by decide +kernel : ∀ t : Fin grid0.N, _)

/-- A block's row. -/
theorem lt_row (t : Fin cfg0.N) (r : Fin 256) : 256 * (t.val % 64) + r.val < 16384 := by omega

/-- A head pair's column. -/
theorem lt_col (t : Fin cfg0.N) (l : Fin 128) : 128 * (t.val / 64) + l.val < 512 := by
  have h : t.val < 256 := t.isLt
  omega

variable (m : (ℓ : Loc nD τ sig) → Buf (Elt Ideal) ℓ)

/-- The queries. -/
abbrev argQ (c : Dev nD) (r : Fin 16384) (l : Fin 512) : EReal :=
  (m ((c.tc : Thread nD τ).loc main_arg0) : FVec Ideal S16640x512 .f32) (ix2 ⟨r.val, by omega⟩ l)
/-- The keys. -/
abbrev argK (c : Dev nD) (r : Fin 16384) (l : Fin 512) : EReal :=
  (m ((c.tc : Thread nD τ).loc main_arg1) : FVec Ideal S16640x512 .f32) (ix2 ⟨r.val, by omega⟩ l)
/-- The values. -/
abbrev argV (c : Dev nD) (r : Fin 16384) (l : Fin 512) : EReal :=
  (m ((c.tc : Thread nD τ).loc main_arg2) : FVec Ideal S16640x512 .f32) (ix2 ⟨r.val, by omega⟩ l)
/-- The gate sums. -/
abbrev argC (c : Dev nD) (r : Fin 16384) (h : Fin 8) : EReal :=
  (m ((c.tc : Thread nD τ).loc main_arg3) : FVec Ideal S16384x8 .f32) (ix2 r h)

/-- The gate sums, transposed, at an index. -/
theorem V5 (c : Dev nD) (h : Fin 8) (r : Fin 16384) :
    (V m c main_v0 : FVec Ideal S8x16384 .f32) (ix2 h r) = argC m c r h := by
  entry_read
  pointwise

/-- The gate sums, transposed twice, at an index. -/
theorem V4 (c : Dev nD) (r : Fin 16384) (h : Fin 8) :
    (V m c main_v3 : FVec Ideal S16384x8 .f32) (ix2 r h) = argC m c r h := by
  entry_read
  pointwise

/-- The keys in the other format, at an index. -/
theorem V2 (c : Dev nD) (r : Fin 16640) (l : Fin 512) :
    (V m c main_v1 : FVec Ideal S16640x512 .bf16) (ix2 r l) = (m ((c.tc : Thread nD τ).loc main_arg1) : FVec Ideal S16640x512 .f32) (ix2 r l) := by
  entry_read
  pointwise

/-- The values in the other format, at an index. -/
theorem V3 (c : Dev nD) (r : Fin 16640) (l : Fin 512) :
    (V m c main_v2 : FVec Ideal S16640x512 .bf16) (ix2 r l) = (m ((c.tc : Thread nD τ).loc main_arg2) : FVec Ideal S16640x512 .f32) (ix2 r l) := by
  entry_read
  pointwise

/-- The query window's block. -/
theorem blk1 (c : Dev nD) (t : Fin cfg0.N) (r : Fin 256) (l : Fin 128) :
    iblk m c 1 t (ix2 r l) = argQ m c ⟨256 * (t.val % 64) + r.val, lt_row t r⟩ ⟨128 * (t.val / 64) + l.val, lt_col t l⟩ := by
  blk_ext! [iblk, V, idx t]

/-- The gate sums of the block's queries. -/
theorem blk4 (c : Dev nD) (t : Fin cfg0.N) (r : Fin 256) (h : Fin 8) :
    iblk m c 4 t (ix2 r h) = argC m c ⟨256 * (t.val % 64) + r.val, lt_row t r⟩ h := by
  refine Eq.trans ?_ (V4 m c _ h)
  blk_ext! [iblk, idx t]

/-- The gate sums of the keys. -/
theorem blk5 (c : Dev nD) (t : Fin cfg0.N) (h : Fin 8) (j : Fin 16384) :
    iblk m c 5 t (ix2 h j) = argC m c j h := by
  refine Eq.trans ?_ (V5 m c h j)
  blk_ext! [iblk, idx t]

/-- The key window's block. -/
theorem blk2 (c : Dev nD) (t : Fin cfg0.N) (j : Fin 16384) (l : Fin 128) :
    X0_2 m c t (ix2 j l) = argK m c j ⟨128 * (t.val / 64) + l.val, lt_col t l⟩ := by
  refine Eq.trans ?_ (V2 m c ⟨j.val, by omega⟩ _)
  unfold X0_2 Pipeline.Window.fill
  rw [dif_pos (moved0_2 t _)]
  blk_ext! [iblk, idx t]

/-- The value window's block. -/
theorem blk3 (c : Dev nD) (t : Fin cfg0.N) (j : Fin 16384) (l : Fin 128) :
    X0_3 m c t (ix2 j l) = argV m c j ⟨128 * (t.val / 64) + l.val, lt_col t l⟩ := by
  refine Eq.trans ?_ (V3 m c ⟨j.val, by omega⟩ _)
  unfold X0_3 Pipeline.Window.fill
  rw [dif_pos (moved0_3 t _)]
  blk_ext! [iblk, idx t]

end Cert.KernelIdeal.Hand

end
-- ==== Proof.FoxRef.lean ====
/-
  The plain reference of the forgetting attention: its result by row and column.
-/
module

public import proofs.«01_k».proof.Defs
public import proofs.«01_k».proof.Proof.Gen.ReferenceIdeal.Run
public import proofs.«01_k».proof.Proof.Online
public import Idealize.ShloMosaic.Lib.Pipeline.ValueKit

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Proof.Online

/-- An argument's prompt rows, head by head. -/
def heads (x : FVec Ideal S16640x512 .f32) : FVec Ideal S16384x8x64 .f32 :=
  shapeCast _ (extractStridedSlice S16384x512 ![0, 0] x slices_S16640x512_S16384x512_0_0) shapeCasts_S16384x512_S16384x8x64

/-- The masked scores, as the reference writes them. -/
def masked (q k : FVec Ideal S16384x8x64 .f32) (g : FVec Ideal S16384x8 .f32) : FVec Ideal S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (subf (addf (mulf (Host.dotGeneral dot_S16384x8x64_S16384x8x64_S8x16384x16384_2_2_0_0_1_1 none q k) (broadcastInDim S8x16384x16384 ![] bcast_S_S8x16384x16384 (constant S_ .f32 0x3E000000#32))) (broadcastInDim S8x16384x16384 ![0, 1, 2] bcast_S8x16384x1_S8x16384x16384_0_1_2 (broadcastInDim S8x16384x1 ![0, 1] bcast_S8x16384_S8x16384x1_0_1 (transpose S8x16384 [1, 0] g transposes_S16384x8_S8x16384_1_0)))) (broadcastInDim S8x16384x16384 ![0, 1, 2] bcast_S8x1x16384_S8x16384x16384_0_1_2 (broadcastInDim S8x1x16384 ![0, 2] bcast_S8x16384_S8x1x16384_0_2 (transpose S8x16384 [1, 0] g transposes_S16384x8_S8x16384_1_0)))) (broadcastInDim S8x16384x16384 ![] bcast_S_S8x16384x16384 (id (constant S_ .f32 0xFF800000#32)))

/-- The scores' maximum over the keys. -/
def top (s : FVec Ideal S8x16384x16384 .f32) : FVec Ideal S8x16384 .f32 :=
  maximumf (broadcastInDim S8x16384 ![] bcast_S_S8x16384 (constant S_ .f32 0xFF800000#32)) (Host.reduce FloatOps.maximumf s (constant S_ .f32 0xFF800000#32) reducesTo_S8x16384x16384_S8x16384_d2 h_S_)

/-- The unnormalised weights. -/
def weight (s : FVec Ideal S8x16384x16384 .f32) : FVec Ideal S8x16384x16384 .f32 :=
  Host.exp (subf s (broadcastInDim S8x16384x16384 ![0, 1, 2] bcast_S8x16384x1_S8x16384x16384_0_1_2 (broadcastInDim S8x16384x1 ![0, 1] bcast_S8x16384_S8x16384x1_0_1 (top s))))

/-- The weighted average of the values, from the scores. -/
def attend (v : FVec Ideal S16384x8x64 .f32) (s : FVec Ideal S8x16384x16384 .f32) : FVec Ideal S16384x512 .f32 :=
  shapeCast _ (transpose S16384x8x64 [2, 0, 1] (Host.dotGeneral dot_S16384x8x64_S8x16384x16384_S8x64x16384_0_2_2_1_1_0 none v (Host.divf (weight s) (broadcastInDim S8x16384x16384 ![0, 1, 2] bcast_S8x16384x1_S8x16384x16384_0_1_2 (broadcastInDim S8x16384x1 ![0, 1] bcast_S8x16384_S8x16384x1_0_1 (Host.reduceAdd (weight s) (constant S_ .f32 0x00000000#32) reducesTo_S8x16384x16384_S8x16384_d2 h_S_))))) transposes_S8x64x16384_S16384x8x64_2_0_1) shapeCasts_S16384x8x64_S16384x512

/-- The reference's result in these words. -/
theorem res_eq (m : (ℓ : Loc nD τ sig) → Buf (Elt Ideal) ℓ) (c : Dev nD) :
    Value.res_out0 (F := Ideal) m c = attend (heads (m ((c.tc : Thread nD τ).loc main_arg2)))
      (masked (heads (m ((c.tc : Thread nD τ).loc main_arg0))) (heads (m ((c.tc : Thread nD τ).loc main_arg1)))
        (m ((c.tc : Thread nD τ).loc main_arg3))) := rfl

/-- A head's lane of a row. -/
theorem heads_apply (x : FVec Ideal S16640x512 .f32) (r : Fin 16384) (h : Fin 8) (e : Fin 64) :
    heads x (ix3 r h e) = x (ix2 ⟨r.val, by omega⟩ ⟨h.val * 64 + e.val, by omega⟩) := by
  unfold heads
  pointwise

/-- Selecting the keys up to the query. -/
theorem sel_pos (j r : Fin 16384) (a b : EReal) :
    Scalar.select (IntOp.cmpi CmpIPredicate.sle (BitVec.ofNat 32 j.val) (BitVec.ofNat 32 r.val)) a b
      = if j.val < r.val + 1 then a else b := by
  have h : IntOp.cmpi CmpIPredicate.sle (BitVec.ofNat 32 j.val) (BitVec.ofNat 32 r.val)
      = if j.val < r.val + 1 then 1#1 else 0#1 := by
    have e : (BitVec.ofNat 32 j.val).sle (BitVec.ofNat 32 r.val) = decide (j.val < r.val + 1) := by
      have hj : (BitVec.ofNat 32 j.val).toInt = j.val := by
        rw [BitVec.toInt_eq_toNat_of_lt (by rw [BitVec.toNat_ofNat]; omega), BitVec.toNat_ofNat]; omega
      have hr : (BitVec.ofNat 32 r.val).toInt = r.val := by
        rw [BitVec.toInt_eq_toNat_of_lt (by rw [BitVec.toNat_ofNat]; omega), BitVec.toNat_ofNat]; omega
      rw [BitVec.sle_eq_decide, hj, hr]
      exact decide_eq_decide.mpr (by omega)
    show BitVec.ofBool ((BitVec.ofNat 32 j.val).sle (BitVec.ofNat 32 r.val)) = _
    rw [e]
    by_cases h : j.val < r.val + 1
    · rw [if_pos h, decide_eq_true h]; rfl
    · rw [if_neg h, decide_eq_false h]; rfl
  rw [h]
  split <;> rfl

/-- The pattern of one eighth. -/
theorem ofBits_eighth : Idealize.ShloMosaic.Ideal.ofBits .f32 1040187392#32 = ((1 / 8 : ℝ) : EReal) := by
  simp [Idealize.ShloMosaic.Ideal.ofBits, Idealize.ShloMosaic.Ideal.ieee]
  rw [← EReal.coe_mul]
  exact congrArg _ (by norm_num)

/-- The pattern of minus infinity. -/
theorem ofBits_negInf : Idealize.ShloMosaic.Ideal.ofBits .f32 4286578688#32 = ⊥ := by
  simp [Idealize.ShloMosaic.Ideal.ofBits, Idealize.ShloMosaic.Ideal.ieee]

/-- The masked scores at an index. -/
theorem masked_apply (q k : FVec Ideal S16384x8x64 .f32) (g : FVec Ideal S16384x8 .f32) (h : Fin 8) (r j : Fin 16384) :
    masked q k g (ix3 h r j) = if j.val < r.val + 1
      then (∑ e : Fin 64, q (ix3 r h e) * k (ix3 j h e)) * ((1 / 8 : ℝ) : EReal) + g (ix2 r h) - g (ix2 j h) else (⊥ : EReal) := by
  unfold masked
  pointwise
  rw [sel_pos, ofBits_eighth]
  exact congrArg _ ofBits_negInf

/-- The maximum of minus infinity and finite numbers, one of them at least, is finite. -/
theorem fold_max_real {ι : Type*} (S : Finset ι) (t : ι → EReal) (hb : ∀ j, t j ≠ ⊤) (j : ι) (hj : j ∈ S) (ht : t j ≠ ⊥) :
    ∃ M : ℝ, Finset.fold max ⊥ t S = M := by
  have hbot : Finset.fold max ⊥ t S ≠ ⊥ := by
    intro h
    have : t j ≤ Finset.fold max ⊥ t S := (Finset.le_fold_max _).mpr (Or.inr ⟨j, hj, le_rfl⟩)
    exact ht (le_bot_iff.mp (h ▸ this))
  have htop : Finset.fold max ⊥ t S ≠ ⊤ :=
    ((Finset.fold_max_lt _).mpr ⟨bot_lt_top, fun j _ => lt_top_iff_ne_top.mpr (hb j)⟩).ne
  exact ⟨_, (EReal.coe_toReal htop hbot).symm⟩

/-- The maximum of an array of finite numbers and minus infinity over some axes is finite where one of the numbers is finite. -/
theorem reduce_max_real {s t u : Shape} {axes : List (Fin s.rank)} (x : s.Idx → EReal) (init : u.Idx → EReal) (h : s.ReducesTo axes t) (hu : 0 < u.numel)
    (hi : ∀ i, init i = ⊥) (hb : ∀ i, x i ≠ ⊤) (i : t.Idx) (j : s.Idx) (hj : h.drop j = i) (ht : x j ≠ ⊥) :
    ∃ M : ℝ, Host.reduce (FloatOps.maximumf (F := Idealize.ShloMosaic.Ideal) (φ := .f32)) x init h hu i = (M : EReal) := by
  obtain ⟨M, hM⟩ := fold_max_real (Finset.univ.filter fun k => h.drop k = i) x hb j (Finset.mem_filter.mpr ⟨Finset.mem_univ _, hj⟩) ht
  refine ⟨M, ?_⟩
  change Host.reduce (max : EReal → EReal → EReal) x init h hu i = _
  rw [Host.reduce_eq_fold, hi, hM]

/-- Dropping the keys of a score's index leaves its row. -/
theorem drop_keys (h : Fin 8) (r j : Fin 16384) :
    (reducesTo_S8x16384x16384_S8x16384_d2 : S8x16384x16384.ReducesTo [2] S8x16384).drop (ix3 h r j) = ix2 h r := by
  funext a
  fin_cases a <;> rfl

/-- The maximum with minus infinity. -/
theorem max_negInf (R : FVec Ideal S8x16384 .f32) (h : Fin 8) (r : Fin 16384) :
    (maximumf (broadcastInDim S8x16384 ![] bcast_S_S8x16384 (constant S_ .f32 0xFF800000#32)) R : FVec Ideal S8x16384 .f32) (ix2 h r) = R (ix2 h r) := by
  pointwise
  rw [ofBits_negInf]
  exact max_eq_right bot_le

/-- The scores' maximum is finite. -/
theorem top_real (s : FVec Ideal S8x16384x16384 .f32) (hb : ∀ i, s i ≠ (⊤ : EReal)) (h : Fin 8) (r : Fin 16384)
    (ht : s (ix3 h r r) ≠ (⊥ : EReal)) : ∃ M : ℝ, top s (ix2 h r) = (M : EReal) := by
  unfold top
  rw [max_negInf]
  exact reduce_max_real s _ _ _ (fun _ => ofBits_negInf) hb _ _ (drop_keys h r r) ht

/-- A weight at an index. -/
theorem weight_apply (s : FVec Ideal S8x16384x16384 .f32) (h : Fin 8) (r j : Fin 16384) :
    weight s (ix3 h r j) = Idealize.ShloMosaic.Ideal.exp (s (ix3 h r j) - top s (ix2 h r)) := by
  unfold weight
  generalize top s = t
  pointwise

/-- The weighted average at an index. -/
theorem attend_apply (v : FVec Ideal S16384x8x64 .f32) (s : FVec Ideal S8x16384x16384 .f32) (r : Fin 16384) (h : Fin 8) (d : Fin 64) :
    attend v s (ix2 r ⟨h.val * 64 + d.val, by omega⟩)
      = ∑ j, Idealize.ShloMosaic.Ideal.div (Idealize.ShloMosaic.Ideal.exp (s (ix3 h r j) - top s (ix2 h r)))
          (∑ i, Idealize.ShloMosaic.Ideal.exp (s (ix3 h r i) - top s (ix2 h r))) * v (ix3 j h d) := by
  have hw := weight_apply s h r
  unfold attend
  generalize weight s = w at *
  pointwise
  simp only [hw, mul_comm (v _)]

/-- The score of a query against key `j`, from its row, the keys and the gate sums. -/
def sval (q : Fin 64 → ℝ) (k : Fin 16384 → Fin 64 → ℝ) (cq : ℝ) (ck : Fin 16384 → ℝ) (j : ℕ) : ℝ :=
  if h : j < 16384 then (∑ e, q e * k ⟨j, h⟩ e) * (1 / 8) + cq - ck ⟨j, h⟩ else cq

/-- The causal softmax average of `v` under the scores `s`, over the keys up to `r`. -/
def avg (s : ℕ → ℝ) (r : ℕ) (v : ℕ → EReal) : EReal :=
  ∑ j ∈ Finset.range (r + 1), ((Real.exp (s j) / ∑ i ∈ Finset.range (r + 1), Real.exp (s i) : ℝ) : EReal) * v j

/-- The reference's attention on finite queries, keys and gate sums. -/
theorem attend_masked (q k v : FVec Ideal S16384x8x64 .f32) (g : FVec Ideal S16384x8 .f32) (r : Fin 16384) (h : Fin 8) (d : Fin 64)
    (q' k' : Fin 16384 → Fin 8 → Fin 64 → ℝ) (g' : Fin 16384 → Fin 8 → ℝ)
    (hq : ∀ r h e, q (ix3 r h e) = (q' r h e : EReal)) (hk : ∀ j h e, k (ix3 j h e) = (k' j h e : EReal))
    (hg : ∀ j h, g (ix2 j h) = (g' j h : EReal)) :
    attend v (masked q k g) (ix2 r ⟨h.val * 64 + d.val, by omega⟩)
      = avg (sval (q' r h) (fun j e => k' j h e) (g' r h) (fun j => g' j h)) r.val
          (fun j => if hj : j < 16384 then v (ix3 ⟨j, hj⟩ h d) else 0) := by
  have hs : ∀ h r j, masked q k g (ix3 h r j) = if j.val < r.val + 1
      then ((sval (q' r h) (fun j e => k' j h e) (g' r h) (fun j => g' j h) j.val : ℝ) : EReal) else (⊥ : EReal) := by
    intro h r j
    rw [masked_apply]
    simp only [hq, hk, hg, ← EReal.coe_mul]
    rw [← coe_sum, ← EReal.coe_mul, ← EReal.coe_add, ← EReal.coe_sub]
    unfold sval
    rw [dif_pos j.isLt]
  rw [attend_apply]
  refine softmax_sum (Nat.succ_pos _) r.isLt _ _ _ ?_ _ _ (hs h r) (fun j => ?_)
  · refine top_real _ (fun i => ?_) h r ?_
    · have e : masked q k g i = _ := (congrArg (masked q k g) (funext fun x => by fin_cases x <;> rfl : i = ix3 (i 0) (i 1) (i 2))).trans (hs (i 0) (i 1) (i 2))
      rw [e]
      split
      · exact EReal.coe_ne_top _
      · exact bot_ne_top
    · rw [hs, if_pos (Nat.lt_succ_self _)]
      exact EReal.coe_ne_bot _
  · rw [dif_pos j.isLt]

end Cert.ReferenceIdeal.Hand

end
-- ==== Proof.FoxValue.lean ====
/-
  The forgetting attention's result after the run: the causal softmax average of the values.
-/
module

public import proofs.«01_k».proof.Proof.FoxHost
public import proofs.«01_k».proof.Proof.FoxRef

@[expose] public section

set_option maxRecDepth 16384

noncomputable section

open Idealize.ShloMosaic Idealize.ShloMosaic.TcCoe Idealize.SL.Sem
open Idealize.ShloMosaic.Pipeline (Dat)
open Cert.ReferenceIdeal.Hand (sval avg)

namespace Cert.KernelIdeal.Hand

open Cert.KernelIdeal Cert.KernelIdeal.Gen Cert.Proof.Online

variable (m : (ℓ : Loc nD τ sig) → Buf (Elt Ideal) ℓ)

/-- The queries' real values, by row and column. -/
def rq (c : Dev nD) (r : Fin 16384) (n : ℕ) : ℝ := if h : n < 512 then (argQ m c r ⟨n, h⟩).toReal else 0
/-- The keys' real values, by row and column. -/
def rk (c : Dev nD) (r : Fin 16384) (n : ℕ) : ℝ := if h : n < 512 then (argK m c r ⟨n, h⟩).toReal else 0
/-- The gate sums' real values, by row and head. -/
def rg (c : Dev nD) (r : Fin 16384) (n : ℕ) : ℝ := if h : n < 8 then (argC m c r ⟨n, h⟩).toReal else 0
/-- The values, by row and column. -/
def rv (c : Dev nD) (n : ℕ) (j : ℕ) : EReal := if hj : j < 16384 then (if h : n < 512 then argV m c ⟨j, hj⟩ ⟨n, h⟩ else 0) else 0

/-- The attention's result at row `r`, head `h` and column `n`. -/
def att (c : Dev nD) (r : Fin 16384) (h n : ℕ) : EReal :=
  avg (sval (fun e : Fin 64 => rq m c r (h * 64 + e.val)) (fun j e => rk m c j (h * 64 + e.val)) (rg m c r h) (fun j => rg m c j h)) r.val (rv m c n)

/-- The queries, keys and gate sums are finite. -/
structure Finite (c : Dev nD) : Prop where
  /-- The queries are. -/
  q : ∀ r l, argQ m c r l = ((argQ m c r l).toReal : EReal)
  /-- The keys are. -/
  k : ∀ r l, argK m c r l = ((argK m c r l).toReal : EReal)
  /-- The gate sums are. -/
  g : ∀ r l, argC m c r l = ((argC m c r l).toReal : EReal)

variable {m}

/-- A finite query by its real value. -/
theorem Finite.rq_eq {c : Dev nD} (H : Finite m c) (r : Fin 16384) (l : Fin 512) (n : ℕ) (h : l.val = n) : argQ m c r l = (rq m c r n : EReal) := by
  subst h
  unfold rq
  rw [dif_pos l.isLt]
  exact H.q r l

/-- A finite key by its real value. -/
theorem Finite.rk_eq {c : Dev nD} (H : Finite m c) (r : Fin 16384) (l : Fin 512) (n : ℕ) (h : l.val = n) : argK m c r l = (rk m c r n : EReal) := by
  subst h
  unfold rk
  rw [dif_pos l.isLt]
  exact H.k r l

/-- A finite gate sum by its real value. -/
theorem Finite.rg_eq {c : Dev nD} (H : Finite m c) (r : Fin 16384) (l : Fin 8) (n : ℕ) (h : l.val = n) : argC m c r l = (rg m c r n : EReal) := by
  subst h
  unfold rg
  rw [dif_pos l.isLt]
  exact H.g r l

/-- A scaled gate sum by its real value. -/
theorem Finite.scaled {c : Dev nD} (H : Finite m c) (r : Fin 16384) (l : Fin 8) (n : ℕ) (h : l.val = n) :
    argC m c r l * (((Real.log 2)⁻¹ : ℝ) : EReal) = ((rg m c r n * (Real.log 2)⁻¹ : ℝ) : EReal) := by
  rw [H.rg_eq r l n h, EReal.coe_mul]

/-- What the pass over the keys up to the query leaves is their softmax average. -/
theorem close {x : ℕ → ℝ} {s : ℕ → ℝ} {v w : ℕ → EReal} {a l u : EReal} {S : Finset ℕ} {R : ℕ} (h : Seen S x v u l a) (hS : S = Finset.range (R + 1))
    (hx : ∀ j, x j = s j * (Real.log 2)⁻¹) (hv : v = w) : Idealize.ShloMosaic.Ideal.div a l = avg s R w := by
  subst hS hv
  exact h.quot ⟨0, by simp⟩ s fun j _ => hx j

/-- The pass's scores are the reference's over the logarithm of two. -/
theorem xval_eq (q : Fin 64 → ℝ) (k : Fin 16384 → Fin 64 → ℝ) (cq : ℝ) (ck : Fin 16384 → ℝ) (j : ℕ) :
    xval q k cq ck j = sval q k cq ck j * (Real.log 2)⁻¹ := by
  unfold xval sval
  split <;> rfl

/-- The value block by row. -/
theorem row_val (c : Dev nD) (t : Fin cfg0.N) (d : Fin 128) :
    (fun j => rowAt (X0_3 m c t) j d) = rv m c (128 * (t.val / 64) + d.val) := by
  funext j
  unfold rowAt rv
  by_cases h : j < 16384
  · rw [dif_pos h, dif_pos h, dif_pos (lt_col t d)]
    exact blk3 m c t ⟨j, h⟩ d
  · rw [dif_neg h, dif_neg h]

/-- The grid point's second coordinate places its rows. -/
theorem rows_eq (t : Fin cfg0.N) (r : Fin 256) :
    diag (grid0.coords t) r ∪ Finset.range (256 * (grid0.coords t 1).val) = Finset.range (256 * (t.val % 64) + r.val + 1) := by
  rw [diag_union, (coords_val t).2]

/-- A grid point's head pair. -/
theorem lt_pair (t : Fin cfg0.N) : t.val / 64 < 4 := by
  have h : t.val < 256 := t.isLt
  omega

/-- The block's result is what the body leaves. -/
theorem outs_eq (c : Dev nD) (t : Fin cfg0.N) : (outsAt0 m c t).1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (X0_2 m c t) (X0_3 m c t) (iblk m c 4 t) (iblk m c 5 t) (iblk m c 6 t) (X0_7 m c t) (X0_8 m c t) (iblk m c 9 t) := by
  simp only [outsAt0]

set_option maxHeartbeats 1000000 in
/-- The first head's lanes of a block's result. -/
theorem out_a {c : Dev nD} (H : Finite m c) (t : Fin cfg0.N) (r : Fin 256) (l : Fin 128) (hl : l.val < 64) :
    (outsAt0 m c t).1 (ix2 r l) = att m c ⟨256 * (t.val % 64) + r.val, lt_row t r⟩ (2 * (t.val / 64) + 0) (128 * (t.val / 64) + l.val) := by
  rw [outs_eq]
  have hp := lt_pair t
  have hi := (coords_val t).1
  have hc := (c_a c (grid0.coords t) (ms0_4 t) (hs0_4 t) (iblk m c 4 t) r ⟨2 * (t.val / 64) + 0, by omega⟩ (by dsimp only; omega)).trans
    ((congrArg (· * (((Real.log 2)⁻¹ : ℝ) : EReal)) (blk4 m c t r _)).trans (H.scaled _ _ (2 * (t.val / 64) + 0) rfl))
  have hx := score_a c (ms0_1 t) (hs0_1 t) (iblk m c 1 t) (X0_2 m c t) (iblk m c 5 t) (2 * (grid0.coords t 0).val + 0) ⟨2 * (t.val / 64) + 0, by omega⟩
    (by dsimp only; omega) r (fun e => rq m c ⟨256 * (t.val % 64) + r.val, lt_row t r⟩ ((2 * (t.val / 64) + 0) * 64 + e.val))
    (fun j e => rk m c j ((2 * (t.val / 64) + 0) * 64 + e.val)) (rg m c ⟨256 * (t.val % 64) + r.val, lt_row t r⟩ (2 * (t.val / 64) + 0))
    (fun j => rg m c j (2 * (t.val / 64) + 0))
    (fun d => (blk1 m c t r _).trans (H.rq_eq _ _ _ (by dsimp only; omega)))
    (fun j d => (blk2 m c t j _).trans (H.rk_eq _ _ _ (by dsimp only; omega)))
    (fun j => (blk5 m c t _ j).trans (H.rg_eq _ _ _ rfl))
  obtain ⟨u, n, a, hs, ho⟩ := block_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (X0_2 m c t) (X0_3 m c t) (iblk m c 4 t) (iblk m c 5 t) (iblk m c 6 t) (X0_7 m c t) (X0_8 m c t) (iblk m c 9 t) r l hl hc hx
  exact ho.trans (close hs (rows_eq t r) (xval_eq _ _ _ _) (row_val c t l))

set_option maxHeartbeats 1000000 in
/-- The second head's lanes of a block's result. -/
theorem out_b {c : Dev nD} (H : Finite m c) (t : Fin cfg0.N) (r : Fin 256) (l : Fin 128) (hl : ¬ l.val < 64) :
    (outsAt0 m c t).1 (ix2 r l) = att m c ⟨256 * (t.val % 64) + r.val, lt_row t r⟩ (2 * (t.val / 64) + 1) (128 * (t.val / 64) + l.val) := by
  rw [outs_eq]
  have hp := lt_pair t
  have hi := (coords_val t).1
  have hc := (c_b c (grid0.coords t) (ms0_4 t) (hs0_4 t) (iblk m c 4 t) r ⟨2 * (t.val / 64) + 1, by omega⟩ (by dsimp only; omega)).trans
    ((congrArg (· * (((Real.log 2)⁻¹ : ℝ) : EReal)) (blk4 m c t r _)).trans (H.scaled _ _ (2 * (t.val / 64) + 1) rfl))
  have hx := score_b c (ms0_1 t) (hs0_1 t) (iblk m c 1 t) (X0_2 m c t) (iblk m c 5 t) (2 * (grid0.coords t 0).val + 1) ⟨2 * (t.val / 64) + 1, by omega⟩
    (by dsimp only; omega) r (fun e => rq m c ⟨256 * (t.val % 64) + r.val, lt_row t r⟩ ((2 * (t.val / 64) + 1) * 64 + e.val))
    (fun j e => rk m c j ((2 * (t.val / 64) + 1) * 64 + e.val)) (rg m c ⟨256 * (t.val % 64) + r.val, lt_row t r⟩ (2 * (t.val / 64) + 1))
    (fun j => rg m c j (2 * (t.val / 64) + 1))
    (fun d => (blk1 m c t r _).trans (H.rq_eq _ _ _ (by dsimp only; omega)))
    (fun j d => (blk2 m c t j _).trans (H.rk_eq _ _ _ (by dsimp only; omega)))
    (fun j => (blk5 m c t _ j).trans (H.rg_eq _ _ _ rfl))
  obtain ⟨u, n, a, hs, ho⟩ := block_b c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (X0_2 m c t) (X0_3 m c t) (iblk m c 4 t) (iblk m c 5 t) (iblk m c 6 t) (X0_7 m c t) (X0_8 m c t) (iblk m c 9 t) r l hl hc hx
  exact ho.trans (close hs (rows_eq t r) (xval_eq _ _ _ _) (row_val c t l))

/-- A block's result. -/
theorem out_apply {c : Dev nD} (H : Finite m c) (t : Fin cfg0.N) (r : Fin 256) (l : Fin 128) :
    (outsAt0 m c t).1 (ix2 r l)
      = att m c ⟨256 * (t.val % 64) + r.val, lt_row t r⟩ ((128 * (t.val / 64) + l.val) / 64) (128 * (t.val / 64) + l.val) := by
  by_cases hl : l.val < 64
  · rw [out_a H t r l hl, show (128 * (t.val / 64) + l.val) / 64 = 2 * (t.val / 64) + 0 by omega]
  · rw [out_b H t r l hl, show (128 * (t.val / 64) + l.val) / 64 = 2 * (t.val / 64) + 1 by omega]

variable (m)

/-- The attention's result. -/
def G10 (c : Dev nD) : Buf (Elt Ideal) ((c.tc : Thread nD τ).loc main_v6_0) := fun i : S16384x512.Idx => att m c (i 0) ((i 1).val / 64) (i 1).val

/-- The attention's result after the run. -/
theorem final10 (c : Dev nD) (H : Finite m c) : (dats m 0 c).arrAt 10 cfg0.N = G10 m c := by
  refine (dats m 0 c).arrAt_eq_of_covers 10 _ (by decide +kernel) fun t hf y => ?_
  blk_simp
  rw [after0_10]
  idx_vars y
  refine Eq.trans (b := G10 m c (ix2 ⟨256 * (t.val % 64) + y0.val, lt_row t y0⟩ ⟨128 * (t.val / 64) + y1.val, lt_col t y1⟩)) ?_ ?_
  · exact out_apply H t y0 y1
  · generalize G10 m c = f
    blk_ext! [idx t]

end Cert.KernelIdeal.Hand

end
-- ==== Proof.FoxPre.lean ====
/-
  The stated condition: the prompt rows of the queries and keys and the gate sums are finite.
-/
module

public import proofs.«01_k».proof.Defs
public import proofs.«01_k».proof.Proof.FoxHost
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Proof.Fox

open Cert.Pre_finite_qkc

/-- The shape relations of the condition. -/
theorem facts : Cert.Pre_finite_qkc.Facts where
  slices_S16640x512_S16384x512_0_0 := by decide
  bcast_S_S16384x512 := by decide
  reducesTo_S16384x512_S_d0_1 := by decide
  h_S_ := by decide
  bcast_S_S16384x8 := by decide
  reducesTo_S16384x8_S_d0_1 := by decide

/-- A number whose absolute value lies below infinity is real. -/
theorem real_of_lt (x : EReal) (h : Idealize.ShloMosaic.Ideal.cmp CmpFPredicate.olt (max x (-x)) (Idealize.ShloMosaic.Ideal.ofBits .f32 2139095040#32) = 1#1) :
    x = (x.toReal : EReal) := by
  have e : Idealize.ShloMosaic.Ideal.ofBits .f32 2139095040#32 = ⊤ := by
    simp [Idealize.ShloMosaic.Ideal.ofBits, Idealize.ShloMosaic.Ideal.ieee]
  rw [e] at h
  have hlt : max x (-x) < ⊤ := by
    by_contra hn
    unfold Idealize.ShloMosaic.Ideal.cmp at h
    simp only [hn, decide_false] at h
    exact absurd h (by decide)
  obtain ⟨h1, h2⟩ := max_lt_iff.mp hlt
  refine (EReal.coe_toReal h1.ne fun hb => ?_).symm
  rw [hb] at h2
  exact absurd h2 (by simp)

/-- A scalar's index is unique. -/
instance : Subsingleton S_.Idx := ⟨fun _ _ => funext fun i => i.elim0⟩

variable [Facts]
open Facts

/-- The condition on an array of rows. -/
theorem rows_real (x : FVec Ideal S16640x512 .f32)
    (h : Host.reduce IntOp.andi (cmpf .olt (Host.absf (extractStridedSlice S16384x512 ![0, 0] x slices_S16640x512_S16384x512_0_0)) (broadcastInDim S16384x512 ![] bcast_S_S16384x512 (constant (F := Ideal) S_ .f32 0x7F800000#32)))
      (constantI S_ 1 1#1) reducesTo_S16384x512_S_d0_1 h_S_ ix0 = 1#1) (r : Fin 16384) (l : Fin 512) :
    x (ix2 ⟨r.val, by omega⟩ l) = ((x (ix2 ⟨r.val, by omega⟩ l) : EReal).toReal : EReal) := by
  have e := Host.reduce_andi_all _ _ _ _ _ h (ix2 r l)
  have s : extractStridedSlice S16384x512 ![0, 0] x slices_S16640x512_S16384x512_0_0 (ix2 r l) = x (ix2 ⟨r.val, by omega⟩ l) := by
    pointwise
  rw [← s]
  exact real_of_lt _ e

/-- The condition on the gate sums. -/
theorem sums_real (x : FVec Ideal S16384x8 .f32)
    (h : Host.reduce IntOp.andi (cmpf .olt (Host.absf x) (broadcastInDim S16384x8 ![] bcast_S_S16384x8 (constant (F := Ideal) S_ .f32 0x7F800000#32)))
      (constantI S_ 1 1#1) reducesTo_S16384x8_S_d0_1 h_S_ ix0 = 1#1) (r : Fin 16384) (l : Fin 8) :
    x (ix2 r l) = ((x (ix2 r l) : EReal).toReal : EReal) :=
  real_of_lt _ (Host.reduce_andi_all _ _ _ _ _ h (ix2 r l))

/-- What the condition says of the call's arguments. -/
theorem pre_real (m : (ℓ : Loc Cert.KernelIdeal.nD Cert.KernelIdeal.τ Cert.KernelIdeal.sig) → Buf (Elt Ideal) ℓ) (h : Cert.Pre_KernelIdeal_finite_qkc m)
    (c : Dev Cert.KernelIdeal.nD) :
    (∀ r l, Cert.KernelIdeal.Hand.argQ m c r l = ((Cert.KernelIdeal.Hand.argQ m c r l).toReal : EReal))
      ∧ (∀ r l, Cert.KernelIdeal.Hand.argK m c r l = ((Cert.KernelIdeal.Hand.argK m c r l).toReal : EReal))
      ∧ (∀ r l, Cert.KernelIdeal.Hand.argC m c r l = ((Cert.KernelIdeal.Hand.argC m c r l).toReal : EReal)) := by
  obtain ⟨hqk, hc⟩ := IntOp.andi_eq_one.1 (congrFun (h c) ix0)
  obtain ⟨hq, hk⟩ := IntOp.andi_eq_one.1 hqk
  exact ⟨rows_real _ hq, rows_real _ hk, sums_real _ hc⟩

end Cert.Proof.Fox

end
-- ==== Proof.FoxClaim.lean ====
/-
  The forgetting attention and the plain reference compute the same result from finite queries, keys and gate sums.
-/
module

public import proofs.«01_k».proof.Proof.FoxValue
public import proofs.«01_k».proof.Proof.FoxPre

@[expose] public section

set_option maxRecDepth 16384

noncomputable section

open Idealize.ShloMosaic Idealize.ShloMosaic.TcCoe Idealize.SL.Sem

namespace Cert.Proof.Fox

open Cert.KernelIdeal.Hand (Finite G10 att rq rk rg rv argQ argK argV argC)
open Cert.ReferenceIdeal.Hand (heads masked attend heads_apply attend_masked res_eq)

/-- The stated condition makes the queries, keys and gate sums finite. -/
theorem finite [Cert.Pre_finite_qkc.Facts] (m : (ℓ : Loc Cert.KernelIdeal.nD Cert.KernelIdeal.τ Cert.KernelIdeal.sig) → Buf (Elt Ideal) ℓ)
    (h : Cert.Pre_KernelIdeal_finite_qkc m) (c : Dev Cert.KernelIdeal.nD) : Finite m c :=
  ⟨(pre_real m h c).1, (pre_real m h c).2.1, (pre_real m h c).2.2⟩

/-- The reference's attention on the call's arguments. -/
theorem ref_apply {m : (ℓ : Loc Cert.KernelIdeal.nD Cert.KernelIdeal.τ Cert.KernelIdeal.sig) → Buf (Elt Ideal) ℓ} {c : Dev Cert.KernelIdeal.nD} (H : Finite m c)
    (r : Fin 16384) (n : Fin 512) :
    attend (heads (m ((c.tc : Thread Cert.KernelIdeal.nD Cert.KernelIdeal.τ).loc Cert.KernelIdeal.main_arg2)))
      (masked (heads (m ((c.tc : Thread Cert.KernelIdeal.nD Cert.KernelIdeal.τ).loc Cert.KernelIdeal.main_arg0)))
        (heads (m ((c.tc : Thread Cert.KernelIdeal.nD Cert.KernelIdeal.τ).loc Cert.KernelIdeal.main_arg1)))
        (m ((c.tc : Thread Cert.KernelIdeal.nD Cert.KernelIdeal.τ).loc Cert.KernelIdeal.main_arg3))) (ix2 r n)
      = att m c r (n.val / 64) n.val := by
  have hn : n = ⟨(⟨n.val / 64, by omega⟩ : Fin 8).val * 64 + (⟨n.val % 64, by omega⟩ : Fin 64).val, by dsimp only; omega⟩ :=
    Fin.ext (by dsimp only; omega)
  refine (congrArg (fun z => attend _ _ (ix2 r z)) hn).trans ((attend_masked _ _ _ _ r ⟨n.val / 64, by omega⟩ ⟨n.val % 64, by omega⟩
    (fun r h e => rq m c r (h.val * 64 + e.val)) (fun r h e => rk m c r (h.val * 64 + e.val)) (fun r h => rg m c r h.val)
    (fun r h e => (heads_apply _ r h e).trans (H.rq_eq _ _ _ rfl)) (fun r h e => (heads_apply _ r h e).trans (H.rk_eq _ _ _ rfl))
    (fun r h => H.rg_eq _ _ _ rfl)).trans ?_)
  unfold att
  refine congrArg (Cert.ReferenceIdeal.Hand.avg _ _) ?_
  funext j
  unfold rv
  by_cases hj : j < 16384
  · rw [dif_pos hj, dif_pos hj, dif_pos n.isLt]
    refine (heads_apply _ _ _ _).trans ?_
    exact congrArg (fun z => argV m c ⟨j, hj⟩ z) hn.symm
  · rw [dif_neg hj, dif_neg hj]

/-- The forgetting attention and the plain reference end with equal results from memories that agree on the arguments, whose
    queries, keys and gate sums are finite. -/
theorem algebraic [Cert.Pre_finite_qkc.Facts] : Cert.algebraic_KernelIdeal_ReferenceIdeal_pre_finite_qkc := by
  intro m g m' g' hpre h
  refine ⟨fun c => G10 m c, ?_, ?_⟩
  · refine (θ_run Cert.KernelIdeal.defs _ _).mono (fun _ hr c => ?_) (Cert.KernelIdeal.Value.run_blocks (F := Ideal) m g)
    obtain ⟨r, _, k⟩ := hr c
    exact ⟨r.trans (Cert.KernelIdeal.Hand.final10 m c (finite m hpre c)), k⟩
  · refine (θ_run Cert.ReferenceIdeal.defs _ _).mono (fun _ hr c => ?_) (Cert.ReferenceIdeal.Value.run (F := Ideal) m' g')
    obtain ⟨r, k⟩ := hr c
    obtain ⟨h0, h1, h2, h3, _⟩ := h c
    refine ⟨r.trans ((res_eq m' c).trans ?_), k⟩
    rw [h0, h1, h2, h3]
    funext i
    have e : i = ix2 (i 0) (i 1) := funext fun x => by fin_cases x <;> rfl
    rw [e]
    exact ref_apply (finite m hpre c) (i 0) (i 1)

end Cert.Proof.Fox

end
-- ==== Proof.lean ====
/-
  The proof of `Cert.Claim`: the frames of the four calls and of their references, the named constants of the attention
  call, and the value claims of the four calls.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Ffn
public import proofs.«01_k».proof.Proof.InprojClaim
public import proofs.«01_k».proof.Proof.Merge
public import proofs.«01_k».proof.Proof.FoxClaim
public import Idealize.ShloMosaic.Lib.Quiescent
public import Idealize.ShloMosaic.Init

@[expose] public section

noncomputable section

namespace Cert.Proof

open Idealize.ShloMosaic Idealize.SL.Sem Cert.Kernel

/-- The attention call's reference runs to the end, leaves its arguments as they were and every counter at zero. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- So it does from the memories that meet the stated condition. -/
theorem frame_ref_pre [hp : Cert.Pre_finite_qkc.Facts] : Cert.quiescent_ReferenceIdeal_pre_finite_qkc := fun m ρ _ => frame_ref m ρ trivial

/-- The feed-forward reference runs to the end, leaves its arguments as they were and every counter at zero. -/
theorem frame_ref2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The input projection's reference runs to the end, leaves its arguments as they were and every counter at zero. -/
theorem frame_ref3 : Cert.quiescent_Reference3Ideal := fun m ρ _ =>
  (θ_run Cert.Reference3Ideal.defs _ _).mono
    (fun r h => ⟨fun c => (h c).2.2.2.2.2.2.2.2.2.2.2.2.2.2, sem_eq_zero_of_no_sems (by decide) r.2⟩)
    (Cert.Reference3Ideal.Value.run (F := Ideal) m ρ)

/-- The merge's reference runs to the end, leaves its arguments as they were and every counter at zero. -/
theorem frame_ref4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The named constants of the attention call are the extended reals that they stand for. -/
theorem named : Cert.preserves_Kernel_KernelIdeal :=
  ⟨IdealRules.named_const.statement _ _ _ _ _ rfl, IdealRules.named_const.statement _ _ _ _ _ rfl,
    IdealRules.named_const.statement _ _ _ _ _ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Fox.facts,
  fun m ρ _ => Cert.Kernel.Gen.frame m ρ, fun m ρ _ => Cert.KernelIdeal.Gen.frame m ρ, fun m ρ _ => Cert.KernelIdeal.Gen.frame m ρ, frame_ref,
  frame_ref_pre (hp := Fox.facts),
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  named, @Fox.algebraic Fox.facts, trivial, Ffn.algebraic, trivial, Inproj.algebraic, trivial, Merge.algebraic⟩

end Cert.Proof

end
